-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attn_args_finite [hPre_attn_args_finite : Cert.Pre_attn_args_finite.Facts] (m : (ℓ : Loc Cert.KernelIdeal.nD Cert.KernelIdeal.τ Cert.KernelIdeal.sig) → Buf (Elt Ideal) ℓ) : Prop :=
  ∀ c : Dev Cert.KernelIdeal.nD,
    (Cert.Pre_attn_args_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attn_args_finite [hPre_attn_args_finite : Cert.Pre_attn_args_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attn_args_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_attn_args_finite [hKernelIdeal : Cert.KernelIdeal.Facts] [hPre_attn_args_finite : Cert.Pre_attn_args_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attn_args_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_attn_args_finite [hReferenceIdeal : Cert.ReferenceIdeal.Facts] [hPre_attn_args_finite : Cert.Pre_attn_args_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attn_args_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_attn_args_finite [hKernelIdeal : Cert.KernelIdeal.Facts] [hReferenceIdeal : Cert.ReferenceIdeal.Facts] [hPre_attn_args_finite : Cert.Pre_attn_args_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attn_args_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v47_1)) (v1 : (c : Dev Cert.Kernel6Ideal.nD) → Buf (Elt Ideal) ((c.tc : Thread Cert.Kernel6Ideal.nD Cert.Kernel6Ideal.τ).loc Cert.Kernel6Ideal.main_v47_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v47_1) = v0 c
          ∧ r.2.mem ((c.tc : Thread Cert.Kernel6Ideal.nD Cert.Kernel6Ideal.τ).loc Cert.Kernel6Ideal.main_v47_2) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v104) = v0 c
          ∧ r.2.mem ((c.tc : Thread Cert.Reference6Ideal.nD Cert.Reference6Ideal.τ).loc Cert.Reference6Ideal.main_v105) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)) →
    ∃ (v0 : (c : Dev Cert.Kernel9Ideal.nD) → Buf (Elt Ideal) ((c.tc : Thread Cert.Kernel9Ideal.nD Cert.Kernel9Ideal.τ).loc Cert.Kernel9Ideal.main_v9_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v97) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_attn_args_finite : Cert.Pre_attn_args_finite.Facts),
    quiescent_Kernel (hKernel := hKernel)
    ∧ quiescent_KernelIdeal (hKernelIdeal := hKernelIdeal)
    ∧ quiescent_KernelIdeal_pre_attn_args_finite (hKernelIdeal := hKernelIdeal) (hPre_attn_args_finite := hPre_attn_args_finite)
    ∧ quiescent_ReferenceIdeal (hReferenceIdeal := hReferenceIdeal)
    ∧ quiescent_ReferenceIdeal_pre_attn_args_finite (hReferenceIdeal := hReferenceIdeal) (hPre_attn_args_finite := hPre_attn_args_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_attn_args_finite (hKernelIdeal := hKernelIdeal) (hReferenceIdeal := hReferenceIdeal) (hPre_attn_args_finite := hPre_attn_args_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_attn_args_finite.lean ====
abbrev S8704x16x512 : Shape := ⟨3, ![8704, 16, 512]⟩
abbrev S8704x16x64 : Shape := ⟨3, ![8704, 16, 64]⟩
abbrev S8704x512 : Shape := ⟨2, ![8704, 512]⟩
abbrev S8704x64 : Shape := ⟨2, ![8704, 64]⟩
abbrev S512x16x128 : Shape := ⟨3, ![512, 16, 128]⟩
abbrev S_ : Shape := ⟨0, ![]⟩

class Facts : Prop where
  bcast_S_S8704x16x512 : S_.BroadcastsInDim S8704x16x512 (![] : Fin 0 → Fin S8704x16x512.rank)
  reducesTo_S8704x16x512_S_d0_1_2 : S8704x16x512.ReducesTo [0, 1, 2] S_
  h_S_ : 0 < S_.numel
  bcast_S_S8704x16x64 : S_.BroadcastsInDim S8704x16x64 (![] : Fin 0 → Fin S8704x16x64.rank)
  reducesTo_S8704x16x64_S_d0_1_2 : S8704x16x64.ReducesTo [0, 1, 2] S_
  bcast_S_S8704x512 : S_.BroadcastsInDim S8704x512 (![] : Fin 0 → Fin S8704x512.rank)
  reducesTo_S8704x512_S_d0_1 : S8704x512.ReducesTo [0, 1] S_
  bcast_S_S8704x64 : S_.BroadcastsInDim S8704x64 (![] : Fin 0 → Fin S8704x64.rank)
  reducesTo_S8704x64_S_d0_1 : S8704x64.ReducesTo [0, 1] S_

variable [Facts]

def fn_part1 {F : FTy → Type} [FloatOps F] (main_v13 : IVec S_ 1) (main_v16 : IVec S8704x64 1) : IVec S_ 1 :=
  let main_c_5 : IVec S_ 1 := constantI S_ 1 1#1
  let main_v17 : IVec S_ 1 := (fun x v => Host.reduce IntOp.andi x v reducesTo_S8704x64_S_d0_1 h_S_) main_v16 main_c_5
  let main_v18 : IVec S_ 1 := andi main_v13 main_v17
  main_v18

def fn {F : FTy → Type} [FloatOps F] (main_arg0 : FVec F S8704x16x512 .f32) (main_arg1 : FVec F S8704x16x64 .f32) (main_arg2 : FVec F S8704x512 .f32) (main_arg3 : FVec F S8704x64 .f32) (main_arg4 : FVec F S512x16x128 .f32) : IVec S_ 1 :=
  let main_v0 : FVec F S8704x16x512 .f32 := Host.absf main_arg0
  let main_cst : FVec F S_ .f32 := constant S_ .f32 0x7F800000#32
  let main_v1 : FVec F S8704x16x512 .f32 := broadcastInDim S8704x16x512 ![] bcast_S_S8704x16x512 main_cst
  let main_v2 : IVec S8704x16x512 1 := cmpf .olt main_v0 main_v1
  let main_c : IVec S_ 1 := constantI S_ 1 1#1
  let main_v3 : IVec S_ 1 := (fun x v => Host.reduce IntOp.andi x v reducesTo_S8704x16x512_S_d0_1_2 h_S_) main_v2 main_c
  let main_v4 : FVec F S8704x16x64 .f32 := Host.absf main_arg1
  let main_cst_0 : FVec F S_ .f32 := constant S_ .f32 0x7F800000#32
  let main_v5 : FVec F S8704x16x64 .f32 := broadcastInDim S8704x16x64 ![] bcast_S_S8704x16x64 main_cst_0
  let main_v6 : IVec S8704x16x64 1 := cmpf .olt main_v4 main_v5
  let main_c_1 : IVec S_ 1 := constantI S_ 1 1#1
  let main_v7 : IVec S_ 1 := (fun x v => Host.reduce IntOp.andi x v reducesTo_S8704x16x64_S_d0_1_2 h_S_) main_v6 main_c_1
  let main_v8 : IVec S_ 1 := andi main_v3 main_v7
  let main_v9 : FVec F S8704x512 .f32 := Host.absf main_arg2
  let main_cst_2 : FVec F S_ .f32 := constant S_ .f32 0x7F800000#32
  let main_v10 : FVec F S8704x512 .f32 := broadcastInDim S8704x512 ![] bcast_S_S8704x512 main_cst_2
  let main_v11 : IVec S8704x512 1 := cmpf .olt main_v9 main_v10
  let main_c_3 : IVec S_ 1 := constantI S_ 1 1#1
  let main_v12 : IVec S_ 1 := (fun x v => Host.reduce IntOp.andi x v reducesTo_S8704x512_S_d0_1 h_S_) main_v11 main_c_3
  let main_v13 : IVec S_ 1 := andi main_v8 main_v12
  let main_v14 : FVec F S8704x64 .f32 := Host.absf main_arg3
  let main_cst_4 : FVec F S_ .f32 := constant S_ .f32 0x7F800000#32
  let main_v15 : FVec F S8704x64 .f32 := broadcastInDim S8704x64 ![] bcast_S_S8704x64 main_cst_4
  let main_v16 : IVec S8704x64 1 := cmpf .olt main_v14 main_v15
  fn_part1 (F := F) main_v13 main_v16
-- ==== Kernel.lean ====
abbrev S8704x16x512 : Shape := ⟨3, ![8704, 16, 512]⟩
abbrev S8704x16x64 : Shape := ⟨3, ![8704, 16, 64]⟩
abbrev S8704x512 : Shape := ⟨2, ![8704, 512]⟩
abbrev S8704x64 : Shape := ⟨2, ![8704, 64]⟩
abbrev S512x16x128 : Shape := ⟨3, ![512, 16, 128]⟩
abbrev S_ : Shape := ⟨0, ![]⟩
abbrev S8704x16x640 : Shape := ⟨3, ![8704, 16, 640]⟩
abbrev S68x128x16x640 : Shape := ⟨4, ![68, 128, 16, 640]⟩
abbrev S68x16x128x640 : Shape := ⟨4, ![68, 16, 128, 640]⟩
abbrev S8704x640 : Shape := ⟨2, ![8704, 640]⟩
abbrev S16x512x128 : Shape := ⟨3, ![16, 512, 128]⟩
abbrev S8192x2048 : Shape := ⟨2, ![8192, 2048]⟩
abbrev S1x16x128x640 : Shape := ⟨4, ![1, 16, 128, 640]⟩
abbrev S512x640 : Shape := ⟨2, ![512, 640]⟩
abbrev S128x2048 : Shape := ⟨2, ![128, 2048]⟩
abbrev S2048x1 : Shape := ⟨2, ![2048, 1]⟩
abbrev S2048x512 : Shape := ⟨2, ![2048, 512]⟩
abbrev S512x512 : Shape := ⟨2, ![512, 512]⟩
abbrev S16x128x640 : Shape := ⟨3, ![16, 128, 640]⟩
abbrev S2048x640 : Shape := ⟨2, ![2048, 640]⟩
abbrev S2048 : Shape := ⟨1, ![2048]⟩
abbrev S1x512 : Shape := ⟨2, ![1, 512]⟩
abbrev S128x512 : Shape := ⟨2, ![128, 512]⟩
abbrev S128x1 : Shape := ⟨2, ![128, 1]⟩
abbrev S1x512x128 : Shape := ⟨3, ![1, 512, 128]⟩
abbrev S512x128 : Shape := ⟨2, ![512, 128]⟩
abbrev S128x128 : Shape := ⟨2, ![128, 128]⟩

abbrev nBuf : Space → Nat
  | .hbm => 18
  | .vmem => 10
  | .smem => 0
  | _ => 0

abbrev bufTy : (tb : Table) → Fin (tcTables nBuf tb) → BufTy
  | .hbm, ⟨0, _⟩ => ⟨S8704x16x512, .f32⟩
  | .hbm, ⟨1, _⟩ => ⟨S8704x16x64, .f32⟩
  | .hbm, ⟨2, _⟩ => ⟨S8704x512, .f32⟩
  | .hbm, ⟨3, _⟩ => ⟨S8704x64, .f32⟩
  | .hbm, ⟨4, _⟩ => ⟨S512x16x128, .f32⟩
  | .hbm, ⟨5, _⟩ => ⟨S_, .f32⟩
  | .hbm, ⟨6, _⟩ => ⟨S8704x16x64, .f32⟩
  | .hbm, ⟨7, _⟩ => ⟨S8704x16x640, .f32⟩
  | .hbm, ⟨8, _⟩ => ⟨S8704x16x640, .bf16⟩
  | .hbm, ⟨9, _⟩ => ⟨S68x128x16x640, .bf16⟩
  | .hbm, ⟨10, _⟩ => ⟨S68x16x128x640, .bf16⟩
  | .hbm, ⟨11, _⟩ => ⟨S_, .f32⟩
  | .hbm, ⟨12, _⟩ => ⟨S8704x64, .f32⟩
  | .hbm, ⟨13, _⟩ => ⟨S8704x640, .f32⟩
  | .hbm, ⟨14, _⟩ => ⟨S8704x640, .bf16⟩
  | .hbm, ⟨15, _⟩ => ⟨S16x512x128, .f32⟩
  | .hbm, ⟨16, _⟩ => ⟨S16x512x128, .bf16⟩
  | .hbm, ⟨17, _⟩ => ⟨S8192x2048, .bf16⟩
  | .local _ .vmem, ⟨0, _⟩ => ⟨S1x16x128x640, .bf16⟩
  | .local _ .vmem, ⟨1, _⟩ => ⟨S1x16x128x640, .bf16⟩
  | .local _ .vmem, ⟨2, _⟩ => ⟨S512x640, .bf16⟩
  | .local _ .vmem, ⟨3, _⟩ => ⟨S512x640, .bf16⟩
  | .local _ .vmem, ⟨4, _⟩ => ⟨S16x512x128, .bf16⟩
  | .local _ .vmem, ⟨5, _⟩ => ⟨S128x2048, .bf16⟩
  | .local _ .vmem, ⟨6, _⟩ => ⟨S128x2048, .bf16⟩
  | .local _ .vmem, ⟨7, _⟩ => ⟨S2048x1, .f32⟩
  | .local _ .vmem, ⟨8, _⟩ => ⟨S2048x1, .f32⟩
  | .local _ .vmem, ⟨9, _⟩ => ⟨S2048x512, .f32⟩
  | _, _ => ⟨S8704x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 16, 4], ![false, false, false]⟩

def k0_cond4 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_10 : BitVec 32 := 0#32
  let v31 : BitVec 1 := Scalar.cmpi .ne v30 c0_i32_10
  v31

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c1_i32 : BitVec 32 := 1#32
  let v1 : BitVec 32 := Scalar.addi arg1 c1_i32
  let c128_i32 : BitVec 32 := 128#32
  let v2 : BitVec 32 := Scalar.muli v1 c128_i32
  let c1_i32_0 : BitVec 32 := 1#32
  let v3 : BitVec 32 := Scalar.subi v2 c1_i32_0
  let c512_i32 : BitVec 32 := 512#32
  let v4 : BitVec 32 := Scalar.divsi v3 c512_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg2 v20
  let v22 : BitVec 32 := Scalar.addi v0 v21
  let c0_i32_6 : BitVec 32 := 0#32
  let c0_i32_7 : BitVec 32 := 0#32
  ![v22.toNat, c0_i32_6.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x16x128x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S16x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S8704x16x512 : Shape := ⟨3, ![8704, 16, 512]⟩
abbrev S8704x16x64 : Shape := ⟨3, ![8704, 16, 64]⟩
abbrev S8704x512 : Shape := ⟨2, ![8704, 512]⟩
abbrev S8704x64 : Shape := ⟨2, ![8704, 64]⟩
abbrev S512x16x128 : Shape := ⟨3, ![512, 16, 128]⟩
abbrev S8192x16x512 : Shape := ⟨3, ![8192, 16, 512]⟩
abbrev S4x2048x16x512 : Shape := ⟨4, ![4, 2048, 16, 512]⟩
abbrev S8192x16x64 : Shape := ⟨3, ![8192, 16, 64]⟩
abbrev S4x2048x16x64 : Shape := ⟨4, ![4, 2048, 16, 64]⟩
abbrev S8192x512 : Shape := ⟨2, ![8192, 512]⟩
abbrev S4x2048x512 : Shape := ⟨3, ![4, 2048, 512]⟩
abbrev S8192x64 : Shape := ⟨2, ![8192, 64]⟩
abbrev S4x2048x64 : Shape := ⟨3, ![4, 2048, 64]⟩
abbrev S4x2048x2048x16 : Shape := ⟨4, ![4, 2048, 2048, 16]⟩
abbrev S4x16x2048x2048 : Shape := ⟨4, ![4, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x2048 : Shape := ⟨3, ![4, 16, 2048]⟩
abbrev S4x16x2048x1 : Shape := ⟨4, ![4, 16, 2048, 1]⟩
abbrev S4x512x16x2048 : Shape := ⟨4, ![4, 512, 16, 2048]⟩
abbrev S16x128x4x2048 : Shape := ⟨4, ![16, 128, 4, 2048]⟩
abbrev S4x2048x16x128 : Shape := ⟨4, ![4, 2048, 16, 128]⟩
abbrev S8192x2048 : Shape := ⟨2, ![8192, 2048]⟩

abbrev nBuf : Space → Nat
  | .hbm => 53
  | .vmem => 0
  | .smem => 0
  | _ => 0

abbrev bufTy : (tb : Table) → Fin (tcTables nBuf tb) → BufTy
  | .hbm, ⟨0, _⟩ => ⟨S8704x16x512, .f32⟩
  | .hbm, ⟨1, _⟩ => ⟨S8704x16x64, .f32⟩
  | .hbm, ⟨2, _⟩ => ⟨S8704x512, .f32⟩
  | .hbm, ⟨3, _⟩ => ⟨S8704x64, .f32⟩
  | .hbm, ⟨4, _⟩ => ⟨S512x16x128, .f32⟩
  | .hbm, ⟨5, _⟩ => ⟨S8192x16x512, .f32⟩
  | .hbm, ⟨6, _⟩ => ⟨S4x2048x16x512, .f32⟩
  | .hbm, ⟨7, _⟩ => ⟨S8192x16x64, .f32⟩
  | .hbm, ⟨8, _⟩ => ⟨S4x2048x16x64, .f32⟩
  | .hbm, ⟨9, _⟩ => ⟨S8192x512, .f32⟩
  | .hbm, ⟨10, _⟩ => ⟨S4x2048x512, .f32⟩
  | .hbm, ⟨11, _⟩ => ⟨S8192x64, .f32⟩
  | .hbm, ⟨12, _⟩ => ⟨S4x2048x64, .f32⟩
  | .hbm, ⟨13, _⟩ => ⟨S4x2048x2048x16, .f32⟩
  | .hbm, ⟨14, _⟩ => ⟨S4x16x2048x2048, .f32⟩
  | .hbm, ⟨15, _⟩ => ⟨S4x2048x2048x16, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S_, .f32⟩
  | .hbm, ⟨20, _⟩ => ⟨S4x16x2048x2048, .f32⟩
  | .hbm, ⟨21, _⟩ => ⟨S4x16x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S_, .f32⟩
  | .hbm, ⟨29, _⟩ => ⟨S_, .f32⟩
  | .hbm, ⟨30, _⟩ => ⟨S4x16x2048x2048, .i1⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048, .f32⟩
  | .hbm, ⟨35, _⟩ => ⟨S_, .f32⟩
  | .hbm, ⟨36, _⟩ => ⟨S4x16x2048, .f32⟩
  | .hbm, ⟨37, _⟩ => ⟨S4x16x2048, .f32⟩
  | .hbm, ⟨38, _⟩ => ⟨S4x16x2048x1, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S4x16x2048x1, .f32⟩
  | .hbm, ⟨45, _⟩ => ⟨S4x16x2048x2048, .f32⟩
  | .hbm, ⟨46, _⟩ => ⟨S4x16x2048x2048, .f32⟩
  | .hbm, ⟨47, _⟩ => ⟨S4x512x16x2048, .f32⟩
  | .hbm, ⟨48, _⟩ => ⟨S4x2048x16x512, .f32⟩
  | .hbm, ⟨49, _⟩ => ⟨S16x128x4x2048, .f32⟩
  | .hbm, ⟨50, _⟩ => ⟨S4x2048x16x128, .f32⟩
  | .hbm, ⟨51, _⟩ => ⟨S8192x2048, .f32⟩
  | .hbm, ⟨52, _⟩ => ⟨S8192x2048, .bf16⟩
  | _, _ => ⟨S8704x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel2.lean ====
abbrev S8704x4096 : Shape := ⟨2, ![8704, 4096]⟩
abbrev S4096x11008 : Shape := ⟨2, ![4096, 11008]⟩
abbrev S_ : Shape := ⟨0, ![]⟩
abbrev S4096x11264 : Shape := ⟨2, ![4096, 11264]⟩
abbrev S8704x11264 : Shape := ⟨2, ![8704, 11264]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 13
  | .vmem => 8
  | .smem => 0
  | _ => 0

abbrev bufTy : (tb : Table) → Fin (tcTables nBuf tb) → BufTy
  | .hbm, ⟨0, _⟩ => ⟨S8704x4096, .f32⟩
  | .hbm, ⟨1, _⟩ => ⟨S4096x11008, .f32⟩
  | .hbm, ⟨2, _⟩ => ⟨S4096x11008, .f32⟩
  | .hbm, ⟨3, _⟩ => ⟨S_, .i32⟩
  | .hbm, ⟨4, _⟩ => ⟨S_, .f32⟩
  | .hbm, ⟨5, _⟩ => ⟨S4096x11264, .f32⟩
  | .hbm, ⟨6, _⟩ => ⟨S4096x11264, .bf16⟩
  | .hbm, ⟨7, _⟩ => ⟨S_, .i32⟩
  | .hbm, ⟨8, _⟩ => ⟨S_, .f32⟩
  | .hbm, ⟨9, _⟩ => ⟨S4096x11264, .f32⟩
  | .hbm, ⟨10, _⟩ => ⟨S4096x11264, .bf16⟩
  | .hbm, ⟨11, _⟩ => ⟨S8704x4096, .bf16⟩
  | .hbm, ⟨12, _⟩ => ⟨S8704x11264, .bf16⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1088x512, .bf16⟩
  | .local _ .vmem, ⟨7, _⟩ => ⟨S1088x512, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8704x4096 : Shape := ⟨2, ![8704, 4096]⟩
abbrev S4096x11008 : Shape := ⟨2, ![4096, 11008]⟩
abbrev S8704x11008 : Shape := ⟨2, ![8704, 11008]⟩
abbrev S_ : Shape := ⟨0, ![]⟩
abbrev S8704x11264 : Shape := ⟨2, ![8704, 11264]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x11008, .f32⟩
  | .hbm, ⟨2, _⟩ => ⟨S4096x11008, .f32⟩
  | .hbm, ⟨3, _⟩ => ⟨S8704x11008, .f32⟩
  | .hbm, ⟨4, _⟩ => ⟨S8704x11008, .f32⟩
  | .hbm, ⟨5, _⟩ => ⟨S8704x11008, .f32⟩
  | .hbm, ⟨6, _⟩ => ⟨S_, .f32⟩
  | .hbm, ⟨7, _⟩ => ⟨S8704x11008, .f32⟩
  | .hbm, ⟨8, _⟩ => ⟨S8704x11008, .f32⟩
  | .hbm, ⟨9, _⟩ => ⟨S_, .f32⟩
  | .hbm, ⟨10, _⟩ => ⟨S8704x11008, .f32⟩
  | .hbm, ⟨11, _⟩ => ⟨S8704x11008, .f32⟩
  | .hbm, ⟨12, _⟩ => ⟨S8704x11008, .f32⟩
  | .hbm, ⟨13, _⟩ => ⟨S8704x11008, .f32⟩
  | .hbm, ⟨14, _⟩ => ⟨S8704x11008, .f32⟩
  | .hbm, ⟨15, _⟩ => ⟨S_, .i32⟩
  | .hbm, ⟨16, _⟩ => ⟨S_, .f32⟩
  | .hbm, ⟨17, _⟩ => ⟨S8704x11264, .f32⟩
  | .hbm, ⟨18, _⟩ => ⟨S8704x11264, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel3.lean ====
abbrev S8704x11008 : Shape := ⟨2, ![8704, 11008]⟩
abbrev S11008x4096 : Shape := ⟨2, ![11008, 4096]⟩
abbrev S8704x4096 : Shape := ⟨2, ![8704, 4096]⟩
abbrev S_ : Shape := ⟨0, ![]⟩
abbrev S11264x4096 : Shape := ⟨2, ![11264, 4096]⟩
abbrev S8704x11264 : Shape := ⟨2, ![8704, 11264]⟩
abbrev S1088x2816 : Shape := ⟨2, ![1088, 2816]⟩
abbrev S2816x1024 : Shape := ⟨2, ![2816, 1024]⟩
abbrev S1088x1024 : Shape := ⟨2, ![1088, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8704x11008, .f32⟩
  | .hbm, ⟨1, _⟩ => ⟨S11008x4096, .f32⟩
  | .hbm, ⟨2, _⟩ => ⟨S8704x4096, .f32⟩
  | .hbm, ⟨3, _⟩ => ⟨S_, .i32⟩
  | .hbm, ⟨4, _⟩ => ⟨S_, .f32⟩
  | .hbm, ⟨5, _⟩ => ⟨S11264x4096, .f32⟩
  | .hbm, ⟨6, _⟩ => ⟨S11264x4096, .bf16⟩
  | .hbm, ⟨7, _⟩ => ⟨S_, .i32⟩
  | .hbm, ⟨8, _⟩ => ⟨S_, .f32⟩
  | .hbm, ⟨9, _⟩ => ⟨S8704x11264, .f32⟩
  | .hbm, ⟨10, _⟩ => ⟨S8704x11264, .bf16⟩
  | .hbm, ⟨11, _⟩ => ⟨S8704x4096, .f32⟩
  | .local _ .vmem, ⟨0, _⟩ => ⟨S1088x2816, .bf16⟩
  | .local _ .vmem, ⟨1, _⟩ => ⟨S1088x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1088x1024, .f32⟩
  | .local _ .vmem, ⟨5, _⟩ => ⟨S1088x1024, .f32⟩
  | .local _ .vmem, ⟨6, _⟩ => ⟨S1088x1024, .f32⟩
  | .local _ .vmem, ⟨7, _⟩ => ⟨S1088x1024, .f32⟩
  | .local _ .vmem, ⟨8, _⟩ => ⟨S1088x1024, .f32⟩
  | _, _ => ⟨S8704x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8704x11008 : Shape := ⟨2, ![8704, 11008]⟩
abbrev S11008x4096 : Shape := ⟨2, ![11008, 4096]⟩
abbrev S8704x4096 : Shape := ⟨2, ![8704, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8704x11008, .f32⟩
  | .hbm, ⟨1, _⟩ => ⟨S11008x4096, .f32⟩
  | .hbm, ⟨2, _⟩ => ⟨S8704x4096, .f32⟩
  | .hbm, ⟨3, _⟩ => ⟨S8704x4096, .f32⟩
  | .hbm, ⟨4, _⟩ => ⟨S8704x4096, .f32⟩
  | _, _ => ⟨S8704x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S8704x4096 : Shape := ⟨2, ![8704, 4096]⟩
abbrev S4096x5696 : Shape := ⟨2, ![4096, 5696]⟩
abbrev S4096x1536 : Shape := ⟨2, ![4096, 1536]⟩
abbrev S4096x64 : Shape := ⟨2, ![4096, 64]⟩
abbrev S4096x128 : Shape := ⟨2, ![4096, 128]⟩
abbrev S_ : Shape := ⟨0, ![]⟩
abbrev S4096x384 : Shape := ⟨2, ![4096, 384]⟩
abbrev S4096x4096 : Shape := ⟨2, ![4096, 4096]⟩
abbrev S4096x6144 : Shape := ⟨2, ![4096, 6144]⟩
abbrev S8704x6144 : Shape := ⟨2, ![8704, 6144]⟩
abbrev S1088x4096 : Shape := ⟨2, ![1088, 4096]⟩
abbrev S4096x1024 : Shape := ⟨2, ![4096, 1024]⟩
abbrev S1088x1024 : Shape := ⟨2, ![1088, 1024]⟩

abbrev nBuf : Space → Nat
  | .hbm => 12
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S4096x5696, .f32⟩
  | .hbm, ⟨2, _⟩ => ⟨S4096x1536, .f32⟩
  | .hbm, ⟨3, _⟩ => ⟨S4096x64, .f32⟩
  | .hbm, ⟨4, _⟩ => ⟨S4096x128, .f32⟩
  | .hbm, ⟨5, _⟩ => ⟨S_, .f32⟩
  | .hbm, ⟨6, _⟩ => ⟨S4096x384, .f32⟩
  | .hbm, ⟨7, _⟩ => ⟨S4096x4096, .f32⟩
  | .hbm, ⟨8, _⟩ => ⟨S4096x6144, .f32⟩
  | .hbm, ⟨9, _⟩ => ⟨S4096x6144, .bf16⟩
  | .hbm, ⟨10, _⟩ => ⟨S8704x4096, .bf16⟩
  | .hbm, ⟨11, _⟩ => ⟨S8704x6144, .f32⟩
  | .local _ .vmem, ⟨0, _⟩ => ⟨S1088x4096, .bf16⟩
  | .local _ .vmem, ⟨1, _⟩ => ⟨S1088x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1088x1024, .f32⟩
  | .local _ .vmem, ⟨5, _⟩ => ⟨S1088x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x4096 : Shape := ⟨2, ![8704, 4096]⟩
abbrev S4096x5696 : Shape := ⟨2, ![4096, 5696]⟩
abbrev S8704x5696 : Shape := ⟨2, ![8704, 5696]⟩
abbrev S8704x1024 : Shape := ⟨2, ![8704, 1024]⟩
abbrev S8704x512 : Shape := ⟨2, ![8704, 512]⟩
abbrev S8704x64 : Shape := ⟨2, ![8704, 64]⟩
abbrev S8704x2048 : Shape := ⟨2, ![8704, 2048]⟩
abbrev S_ : Shape := ⟨0, ![]⟩
abbrev S8704x384 : Shape := ⟨2, ![8704, 384]⟩
abbrev S8704x6144 : Shape := ⟨2, ![8704, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096x5696, .f32⟩
  | .hbm, ⟨2, _⟩ => ⟨S8704x5696, .f32⟩
  | .hbm, ⟨3, _⟩ => ⟨S8704x1024, .f32⟩
  | .hbm, ⟨4, _⟩ => ⟨S8704x512, .f32⟩
  | .hbm, ⟨5, _⟩ => ⟨S8704x64, .f32⟩
  | .hbm, ⟨6, _⟩ => ⟨S8704x2048, .f32⟩
  | .hbm, ⟨7, _⟩ => ⟨S8704x2048, .f32⟩
  | .hbm, ⟨8, _⟩ => ⟨S_, .f32⟩
  | .hbm, ⟨9, _⟩ => ⟨S8704x384, .f32⟩
  | .hbm, ⟨10, _⟩ => ⟨S8704x6144, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8704x2048 : Shape := ⟨2, ![8704, 2048]⟩
abbrev S4096x4096 : Shape := ⟨2, ![4096, 4096]⟩
abbrev S8704x4096 : Shape := ⟨2, ![8704, 4096]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 9
  | .vmem => 8
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S4096x4096, .f32⟩
  | .hbm, ⟨3, _⟩ => ⟨S8704x4096, .f32⟩
  | .hbm, ⟨4, _⟩ => ⟨S8704x2048, .bf16⟩
  | .hbm, ⟨5, _⟩ => ⟨S8704x2048, .bf16⟩
  | .hbm, ⟨6, _⟩ => ⟨S8704x4096, .bf16⟩
  | .hbm, ⟨7, _⟩ => ⟨S4096x4096, .bf16⟩
  | .hbm, ⟨8, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8704x2048 : Shape := ⟨2, ![8704, 2048]⟩
abbrev S4096x4096 : Shape := ⟨2, ![4096, 4096]⟩
abbrev S8704x4096 : Shape := ⟨2, ![8704, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x2048, .f32⟩
  | .hbm, ⟨1, _⟩ => ⟨S8704x2048, .f32⟩
  | .hbm, ⟨2, _⟩ => ⟨S4096x4096, .f32⟩
  | .hbm, ⟨3, _⟩ => ⟨S8704x4096, .f32⟩
  | .hbm, ⟨4, _⟩ => ⟨S8704x4096, .f32⟩
  | .hbm, ⟨5, _⟩ => ⟨S8704x4096, .f32⟩
  | .hbm, ⟨6, _⟩ => ⟨S8704x4096, .f32⟩
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel6.lean ====
abbrev S8704x5696 : Shape := ⟨2, ![8704, 5696]⟩
abbrev S1024 : Shape := ⟨1, ![1024]⟩
abbrev S512 : Shape := ⟨1, ![512]⟩
abbrev S1024x3072 : Shape := ⟨2, ![1024, 3072]⟩
abbrev S512x16x128 : Shape := ⟨3, ![512, 16, 128]⟩
abbrev S8704x1536 : Shape := ⟨2, ![8704, 1536]⟩
abbrev S8704x64 : Shape := ⟨2, ![8704, 64]⟩
abbrev S8704x128 : Shape := ⟨2, ![8704, 128]⟩
abbrev S_ : Shape := ⟨0, ![]⟩
abbrev S8704x384 : Shape := ⟨2, ![8704, 384]⟩
abbrev S8704x4096 : Shape := ⟨2, ![8704, 4096]⟩
abbrev S8704x6144 : Shape := ⟨2, ![8704, 6144]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S1024x16x192 : Shape := ⟨3, ![1024, 16, 192]⟩
abbrev S1024x16x128 : Shape := ⟨3, ![1024, 16, 128]⟩
abbrev S1024x2048 : Shape := ⟨2, ![1024, 2048]⟩
abbrev S1024x16x64 : Shape := ⟨3, ![1024, 16, 64]⟩
abbrev S16x128x512 : Shape := ⟨3, ![16, 128, 512]⟩
abbrev S1x1024 : Shape := ⟨2, ![1, 1024]⟩
abbrev S1x512 : Shape := ⟨2, ![1, 512]⟩
abbrev S68x16x128x640 : Shape := ⟨4, ![68, 16, 128, 640]⟩
abbrev S8704x512 : Shape := ⟨2, ![8704, 512]⟩
abbrev S8704x640 : Shape := ⟨2, ![8704, 640]⟩
abbrev S256x1024 : Shape := ⟨2, ![256, 1024]⟩
abbrev S256x512 : Shape := ⟨2, ![256, 512]⟩
abbrev S256x128 : Shape := ⟨2, ![256, 128]⟩
abbrev S2x16x128x640 : Shape := ⟨4, ![2, 16, 128, 640]⟩
abbrev S256x64 : Shape := ⟨2, ![256, 64]⟩
abbrev S256x640 : Shape := ⟨2, ![256, 640]⟩
abbrev S256 : Shape := ⟨1, ![256]⟩
abbrev S256x1 : Shape := ⟨2, ![256, 1]⟩
abbrev S256x2048 : Shape := ⟨2, ![256, 2048]⟩
abbrev S1x128x512 : Shape := ⟨3, ![1, 128, 512]⟩
abbrev S128x512 : Shape := ⟨2, ![128, 512]⟩
abbrev S1x1x128x512 : Shape := ⟨4, ![1, 1, 128, 512]⟩
abbrev S128x128 : Shape := ⟨2, ![128, 128]⟩
abbrev S1x1x128x128 : Shape := ⟨4, ![1, 1, 128, 128]⟩

abbrev nBuf : Space → Nat
  | .hbm => 61
  | .vmem => 23
  | .smem => 0
  | _ => 0

abbrev bufTy : (tb : Table) → Fin (tcTables nBuf tb) → BufTy
  | .hbm, ⟨0, _⟩ => ⟨S8704x5696, .f32⟩
  | .hbm, ⟨1, _⟩ => ⟨S1024, .f32⟩
  | .hbm, ⟨2, _⟩ => ⟨S512, .f32⟩
  | .hbm, ⟨3, _⟩ => ⟨S1024x3072, .f32⟩
  | .hbm, ⟨4, _⟩ => ⟨S512x16x128, .f32⟩
  | .hbm, ⟨5, _⟩ => ⟨S8704x1536, .f32⟩
  | .hbm, ⟨6, _⟩ => ⟨S8704x64, .f32⟩
  | .hbm, ⟨7, _⟩ => ⟨S8704x128, .f32⟩
  | .hbm, ⟨8, _⟩ => ⟨S_, .f32⟩
  | .hbm, ⟨9, _⟩ => ⟨S8704x384, .f32⟩
  | .hbm, ⟨10, _⟩ => ⟨S8704x4096, .f32⟩
  | .hbm, ⟨11, _⟩ => ⟨S8704x6144, .f32⟩
  | .hbm, ⟨12, _⟩ => ⟨S2048, .i32⟩
  | .hbm, ⟨13, _⟩ => ⟨S1x2048, .i32⟩
  | .hbm, ⟨14, _⟩ => ⟨S4x2048, .i32⟩
  | .hbm, ⟨15, _⟩ => ⟨S8192, .i32⟩
  | .hbm, ⟨16, _⟩ => ⟨S4, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S1x4, .i32⟩
  | .hbm, ⟨21, _⟩ => ⟨S128x4, .i32⟩
  | .hbm, ⟨22, _⟩ => ⟨S512, .i32⟩
  | .hbm, ⟨23, _⟩ => ⟨S8704, .i32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S8704, .f32⟩
  | .hbm, ⟨33, _⟩ => ⟨S8704x1, .f32⟩
  | .hbm, ⟨34, _⟩ => ⟨S1x32, .f32⟩
  | .hbm, ⟨35, _⟩ => ⟨S8704x32, .f32⟩
  | .hbm, ⟨36, _⟩ => ⟨S8704x32, .f32⟩
  | .hbm, ⟨37, _⟩ => ⟨S8704x32, .f32⟩
  | .hbm, ⟨38, _⟩ => ⟨S8704x32, .f32⟩
  | .hbm, ⟨39, _⟩ => ⟨S8704x32, .f32⟩
  | .hbm, ⟨40, _⟩ => ⟨S_, .f32⟩
  | .hbm, ⟨41, _⟩ => ⟨S8704x32, .f32⟩
  | .hbm, ⟨42, _⟩ => ⟨S8704x128, .f32⟩
  | .hbm, ⟨43, _⟩ => ⟨S8704x32, .f32⟩
  | .hbm, ⟨44, _⟩ => ⟨S8704x128, .f32⟩
  | .hbm, ⟨45, _⟩ => ⟨S1024x16x192, .f32⟩
  | .hbm, ⟨46, _⟩ => ⟨S1024x16x128, .f32⟩
  | .hbm, ⟨47, _⟩ => ⟨S1024x2048, .f32⟩
  | .hbm, ⟨48, _⟩ => ⟨S1024x2048, .bf16⟩
  | .hbm, ⟨49, _⟩ => ⟨S1024x16x64, .f32⟩
  | .hbm, ⟨50, _⟩ => ⟨S1024x16x128, .f32⟩
  | .hbm, ⟨51, _⟩ => ⟨S1024x2048, .f32⟩
  | .hbm, ⟨52, _⟩ => ⟨S1024x2048, .bf16⟩
  | .hbm, ⟨53, _⟩ => ⟨S16x128x512, .f32⟩
  | .hbm, ⟨54, _⟩ => ⟨S16x128x512, .bf16⟩
  | .hbm, ⟨55, _⟩ => ⟨S1x1024, .f32⟩
  | .hbm, ⟨56, _⟩ => ⟨S1x512, .f32⟩
  | .hbm, ⟨57, _⟩ => ⟨S68x16x128x640, .bf16⟩
  | .hbm, ⟨58, _⟩ => ⟨S8704x512, .f32⟩
  | .hbm, ⟨59, _⟩ => ⟨S8704x64, .f32⟩
  | .hbm, ⟨60, _⟩ => ⟨S8704x640, .bf16⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x1024, .f32⟩
  | .local _ .vmem, ⟨11, _⟩ => ⟨S1x512, .f32⟩
  | .local _ .vmem, ⟨12, _⟩ => ⟨S1024x2048, .bf16⟩
  | .local _ .vmem, ⟨13, _⟩ => ⟨S1024x2048, .bf16⟩
  | .local _ .vmem, ⟨14, _⟩ => ⟨S16x128x512, .bf16⟩
  | .local _ .vmem, ⟨15, _⟩ => ⟨S2x16x128x640, .bf16⟩
  | .local _ .vmem, ⟨16, _⟩ => ⟨S2x16x128x640, .bf16⟩
  | .local _ .vmem, ⟨17, _⟩ => ⟨S256x512, .f32⟩
  | .local _ .vmem, ⟨18, _⟩ => ⟨S256x512, .f32⟩
  | .local _ .vmem, ⟨19, _⟩ => ⟨S256x64, .f32⟩
  | .local _ .vmem, ⟨20, _⟩ => ⟨S256x64, .f32⟩
  | .local _ .vmem, ⟨21, _⟩ => ⟨S256x640, .bf16⟩
  | .local _ .vmem, ⟨22, _⟩ => ⟨S256x640, .bf16⟩
  | _, _ => ⟨S8704x5696, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47_0 : Ref sig .tc := ⟨.hbm, 57, rfl⟩
abbrev main_v47_1 : Ref sig .tc := ⟨.hbm, 58, rfl⟩
abbrev main_v47_2 : Ref sig .tc := ⟨.hbm, 59, rfl⟩
abbrev main_v47_3 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x16x128x640 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x640 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S8704x5696 : Shape := ⟨2, ![8704, 5696]⟩
abbrev S1024 : Shape := ⟨1, ![1024]⟩
abbrev S512 : Shape := ⟨1, ![512]⟩
abbrev S1024x3072 : Shape := ⟨2, ![1024, 3072]⟩
abbrev S512x16x128 : Shape := ⟨3, ![512, 16, 128]⟩
abbrev S8192x5696 : Shape := ⟨2, ![8192, 5696]⟩
abbrev S2048 : Shape := ⟨1, ![2048]⟩
abbrev S4x2048x5696 : Shape := ⟨3, ![4, 2048, 5696]⟩
abbrev S4x2048x512 : Shape := ⟨3, ![4, 2048, 512]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x2048x64 : Shape := ⟨3, ![4, 2048, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S4x2048x32 : Shape := ⟨3, ![4, 2048, 32]⟩
abbrev S1x2048x32 : Shape := ⟨3, ![1, 2048, 32]⟩
abbrev S8192x512 : Shape := ⟨2, ![8192, 512]⟩
abbrev S8192x64 : Shape := ⟨2, ![8192, 64]⟩
abbrev S512x5696 : Shape := ⟨2, ![512, 5696]⟩
abbrev S4 : Shape := ⟨1, ![4]⟩
abbrev S128x4x5696 : Shape := ⟨3, ![128, 4, 5696]⟩
abbrev S128x4x512 : Shape := ⟨3, ![128, 4, 512]⟩
abbrev S128x4 : Shape := ⟨2, ![128, 4]⟩
abbrev S128x4x1 : Shape := ⟨3, ![128, 4, 1]⟩
abbrev S128x4x64 : Shape := ⟨3, ![128, 4, 64]⟩
abbrev S4x1 : Shape := ⟨2, ![4, 1]⟩
abbrev S4x32 : Shape := ⟨2, ![4, 32]⟩
abbrev S128x4x32 : Shape := ⟨3, ![128, 4, 32]⟩
abbrev S1x4x32 : Shape := ⟨3, ![1, 4, 32]⟩
abbrev S512x512 : Shape := ⟨2, ![512, 512]⟩
abbrev S512x64 : Shape := ⟨2, ![512, 64]⟩
abbrev S8704x512 : Shape := ⟨2, ![8704, 512]⟩
abbrev S8704x64 : Shape := ⟨2, ![8704, 64]⟩

abbrev nBuf : Space → Nat
  | .hbm => 122
  | .vmem => 0
  | .smem => 0
  | _ => 0

abbrev bufTy : (tb : Table) → Fin (tcTables nBuf tb) → BufTy
  | .hbm, ⟨0, _⟩ => ⟨S8704x5696, .f32⟩
  | .hbm, ⟨1, _⟩ => ⟨S1024, .f32⟩
  | .hbm, ⟨2, _⟩ => ⟨S512, .f32⟩
  | .hbm, ⟨3, _⟩ => ⟨S1024x3072, .f32⟩
  | .hbm, ⟨4, _⟩ => ⟨S512x16x128, .f32⟩
  | .hbm, ⟨5, _⟩ => ⟨S8192x5696, .f32⟩
  | .hbm, ⟨6, _⟩ => ⟨S2048, .i32⟩
  | .hbm, ⟨7, _⟩ => ⟨S4x2048x5696, .f32⟩
  | .hbm, ⟨8, _⟩ => ⟨S4x2048x512, .f32⟩
  | .hbm, ⟨9, _⟩ => ⟨S4x2048x512, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x512, .f32⟩
  | .hbm, ⟨21, _⟩ => ⟨S4x2048x512, .f32⟩
  | .hbm, ⟨22, _⟩ => ⟨S1x1x512, .f32⟩
  | .hbm, ⟨23, _⟩ => ⟨S4x2048x512, .f32⟩
  | .hbm, ⟨24, _⟩ => ⟨S4x2048x512, .f32⟩
  | .hbm, ⟨25, _⟩ => ⟨S4x2048x64, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S2048, .f32⟩
  | .hbm, ⟨35, _⟩ => ⟨S2048x1, .f32⟩
  | .hbm, ⟨36, _⟩ => ⟨S1x32, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S4x2048x32, .f32⟩
  | .hbm, ⟨43, _⟩ => ⟨S4x2048x32, .f32⟩
  | .hbm, ⟨44, _⟩ => ⟨S1x2048x32, .f32⟩
  | .hbm, ⟨45, _⟩ => ⟨S4x2048x32, .f32⟩
  | .hbm, ⟨46, _⟩ => ⟨S4x2048x32, .f32⟩
  | .hbm, ⟨47, _⟩ => ⟨S1x2048x32, .f32⟩
  | .hbm, ⟨48, _⟩ => ⟨S4x2048x32, .f32⟩
  | .hbm, ⟨49, _⟩ => ⟨S4x2048x32, .f32⟩
  | .hbm, ⟨50, _⟩ => ⟨S4x2048x32, .f32⟩
  | .hbm, ⟨51, _⟩ => ⟨S1x2048x32, .f32⟩
  | .hbm, ⟨52, _⟩ => ⟨S4x2048x32, .f32⟩
  | .hbm, ⟨53, _⟩ => ⟨S4x2048x32, .f32⟩
  | .hbm, ⟨54, _⟩ => ⟨S1x2048x32, .f32⟩
  | .hbm, ⟨55, _⟩ => ⟨S4x2048x32, .f32⟩
  | .hbm, ⟨56, _⟩ => ⟨S4x2048x32, .f32⟩
  | .hbm, ⟨57, _⟩ => ⟨S4x2048x32, .f32⟩
  | .hbm, ⟨58, _⟩ => ⟨S4x2048x64, .f32⟩
  | .hbm, ⟨59, _⟩ => ⟨S8192x512, .f32⟩
  | .hbm, ⟨60, _⟩ => ⟨S8192x64, .f32⟩
  | .hbm, ⟨61, _⟩ => ⟨S512x5696, .f32⟩
  | .hbm, ⟨62, _⟩ => ⟨S4, .i32⟩
  | .hbm, ⟨63, _⟩ => ⟨S_, .i32⟩
  | .hbm, ⟨64, _⟩ => ⟨S4, .i32⟩
  | .hbm, ⟨65, _⟩ => ⟨S4, .i32⟩
  | .hbm, ⟨66, _⟩ => ⟨S128x4x5696, .f32⟩
  | .hbm, ⟨67, _⟩ => ⟨S128x4x512, .f32⟩
  | .hbm, ⟨68, _⟩ => ⟨S128x4x512, .f32⟩
  | .hbm, ⟨69, _⟩ => ⟨S_, .f32⟩
  | .hbm, ⟨70, _⟩ => ⟨S128x4, .f32⟩
  | .hbm, ⟨71, _⟩ => ⟨S128x4x1, .f32⟩
  | .hbm, ⟨72, _⟩ => ⟨S_, .f32⟩
  | .hbm, ⟨73, _⟩ => ⟨S128x4x1, .f32⟩
  | .hbm, ⟨74, _⟩ => ⟨S128x4x1, .f32⟩
  | .hbm, ⟨75, _⟩ => ⟨S_, .f32⟩
  | .hbm, ⟨76, _⟩ => ⟨S128x4x1, .f32⟩
  | .hbm, ⟨77, _⟩ => ⟨S128x4x1, .f32⟩
  | .hbm, ⟨78, _⟩ => ⟨S128x4x1, .f32⟩
  | .hbm, ⟨79, _⟩ => ⟨S128x4x512, .f32⟩
  | .hbm, ⟨80, _⟩ => ⟨S128x4x512, .f32⟩
  | .hbm, ⟨81, _⟩ => ⟨S1x1x512, .f32⟩
  | .hbm, ⟨82, _⟩ => ⟨S128x4x512, .f32⟩
  | .hbm, ⟨83, _⟩ => ⟨S128x4x512, .f32⟩
  | .hbm, ⟨84, _⟩ => ⟨S128x4x64, .f32⟩
  | .hbm, ⟨85, _⟩ => ⟨S32, .f32⟩
  | .hbm, ⟨86, _⟩ => ⟨S32, .f32⟩
  | .hbm, ⟨87, _⟩ => ⟨S_, .f32⟩
  | .hbm, ⟨88, _⟩ => ⟨S32, .f32⟩
  | .hbm, ⟨89, _⟩ => ⟨S32, .f32⟩
  | .hbm, ⟨90, _⟩ => ⟨S_, .f32⟩
  | .hbm, ⟨91, _⟩ => ⟨S32, .f32⟩
  | .hbm, ⟨92, _⟩ => ⟨S32, .f32⟩
  | .hbm, ⟨93, _⟩ => ⟨S4, .f32⟩
  | .hbm, ⟨94, _⟩ => ⟨S4x1, .f32⟩
  | .hbm, ⟨95, _⟩ => ⟨S1x32, .f32⟩
  | .hbm, ⟨96, _⟩ => ⟨S4x32, .f32⟩
  | .hbm, ⟨97, _⟩ => ⟨S4x32, .f32⟩
  | .hbm, ⟨98, _⟩ => ⟨S4x32, .f32⟩
  | .hbm, ⟨99, _⟩ => ⟨S4x32, .f32⟩
  | .hbm, ⟨100, _⟩ => ⟨S4x32, .f32⟩
  | .hbm, ⟨101, _⟩ => ⟨S128x4x32, .f32⟩
  | .hbm, ⟨102, _⟩ => ⟨S128x4x32, .f32⟩
  | .hbm, ⟨103, _⟩ => ⟨S1x4x32, .f32⟩
  | .hbm, ⟨104, _⟩ => ⟨S128x4x32, .f32⟩
  | .hbm, ⟨105, _⟩ => ⟨S128x4x32, .f32⟩
  | .hbm, ⟨106, _⟩ => ⟨S1x4x32, .f32⟩
  | .hbm, ⟨107, _⟩ => ⟨S128x4x32, .f32⟩
  | .hbm, ⟨108, _⟩ => ⟨S128x4x32, .f32⟩
  | .hbm, ⟨109, _⟩ => ⟨S128x4x32, .f32⟩
  | .hbm, ⟨110, _⟩ => ⟨S1x4x32, .f32⟩
  | .hbm, ⟨111, _⟩ => ⟨S128x4x32, .f32⟩
  | .hbm, ⟨112, _⟩ => ⟨S128x4x32, .f32⟩
  | .hbm, ⟨113, _⟩ => ⟨S1x4x32, .f32⟩
  | .hbm, ⟨114, _⟩ => ⟨S128x4x32, .f32⟩
  | .hbm, ⟨115, _⟩ => ⟨S128x4x32, .f32⟩
  | .hbm, ⟨116, _⟩ => ⟨S128x4x32, .f32⟩
  | .hbm, ⟨117, _⟩ => ⟨S128x4x64, .f32⟩
  | .hbm, ⟨118, _⟩ => ⟨S512x512, .f32⟩
  | .hbm, ⟨119, _⟩ => ⟨S512x64, .f32⟩
  | .hbm, ⟨120, _⟩ => ⟨S8704x512, .f32⟩
  | .hbm, ⟨121, _⟩ => ⟨S8704x64, .f32⟩
  | _, _ => ⟨S8704x5696, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_c : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_v58 : Ref sig .tc := ⟨.hbm, 70, rfl⟩
abbrev main_v59 : Ref sig .tc := ⟨.hbm, 71, rfl⟩
abbrev main_cst_5 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩

abbrev nD : Nat := 1
abbrev τ : Topo := Topo.v7x

variable {F : FTy → Type} [FloatOps F]
-- ==== Kernel7.lean ====
abbrev S8704x4096 : Shape := ⟨2, ![8704, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8704x4096 : Shape := ⟨2, ![8704, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S8704x4096 : Shape := ⟨2, ![8704, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S1x4096, .f32⟩
  | .hbm, ⟨3, _⟩ => ⟨S512x4096, .f32⟩
  | .local _ .vmem, ⟨0, _⟩ => ⟨S512x4096, .f32⟩
  | .local _ .vmem, ⟨1, _⟩ => ⟨S1x4096, .f32⟩
  | .local _ .vmem, ⟨2, _⟩ => ⟨S512x4096, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference8Ideal.lean ====
abbrev S8704x4096 : Shape := ⟨2, ![8704, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel9.lean ====
abbrev S128x4x2048 : Shape := ⟨3, ![128, 4, 2048]⟩
abbrev S128x3x2048 : Shape := ⟨3, ![128, 3, 2048]⟩
abbrev S128x2048 : Shape := ⟨2, ![128, 2048]⟩
abbrev S4x2048 : Shape := ⟨2, ![4, 2048]⟩
abbrev S2048 : Shape := ⟨1, ![2048]⟩
abbrev S16x128x128 : Shape := ⟨3, ![16, 128, 128]⟩
abbrev S4x128x2048 : Shape := ⟨3, ![4, 128, 2048]⟩
abbrev S3x128x2048 : Shape := ⟨3, ![3, 128, 2048]⟩
abbrev S1x2048 : Shape := ⟨2, ![1, 2048]⟩
abbrev S4x128x128 : Shape := ⟨3, ![4, 128, 128]⟩
abbrev S3x128x128 : Shape := ⟨3, ![3, 128, 128]⟩
abbrev S128x128 : Shape := ⟨2, ![128, 128]⟩
abbrev S4x128 : Shape := ⟨2, ![4, 128]⟩
abbrev S1x128 : Shape := ⟨2, ![1, 128]⟩
abbrev S1x128x128 : Shape := ⟨3, ![1, 128, 128]⟩
abbrev S512x128 : Shape := ⟨2, ![512, 128]⟩

abbrev nBuf : Space → Nat
  | .hbm => 22
  | .vmem => 26
  | .smem => 0
  | _ => 0

abbrev bufTy : (tb : Table) → Fin (tcTables nBuf tb) → BufTy
  | .hbm, ⟨0, _⟩ => ⟨S128x4x2048, .f32⟩
  | .hbm, ⟨1, _⟩ => ⟨S128x3x2048, .f32⟩
  | .hbm, ⟨2, _⟩ => ⟨S128x4x2048, .f32⟩
  | .hbm, ⟨3, _⟩ => ⟨S128x2048, .f32⟩
  | .hbm, ⟨4, _⟩ => ⟨S4x2048, .f32⟩
  | .hbm, ⟨5, _⟩ => ⟨S2048, .f32⟩
  | .hbm, ⟨6, _⟩ => ⟨S16x128x128, .f32⟩
  | .hbm, ⟨7, _⟩ => ⟨S2048, .f32⟩
  | .hbm, ⟨8, _⟩ => ⟨S16x128x128, .f32⟩
  | .hbm, ⟨9, _⟩ => ⟨S2048, .f32⟩
  | .hbm, ⟨10, _⟩ => ⟨S2048, .f32⟩
  | .hbm, ⟨11, _⟩ => ⟨S4x128x2048, .f32⟩
  | .hbm, ⟨12, _⟩ => ⟨S3x128x2048, .f32⟩
  | .hbm, ⟨13, _⟩ => ⟨S4x128x2048, .f32⟩
  | .hbm, ⟨14, _⟩ => ⟨S16x128x128, .bf16⟩
  | .hbm, ⟨15, _⟩ => ⟨S16x128x128, .bf16⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S1x2048, .f32⟩
  | .hbm, ⟨20, _⟩ => ⟨S4x128x2048, .bf16⟩
  | .hbm, ⟨21, _⟩ => ⟨S128x2048, .f32⟩
  | .local _ .vmem, ⟨0, _⟩ => ⟨S4x128x128, .f32⟩
  | .local _ .vmem, ⟨1, _⟩ => ⟨S4x128x128, .f32⟩
  | .local _ .vmem, ⟨2, _⟩ => ⟨S3x128x128, .f32⟩
  | .local _ .vmem, ⟨3, _⟩ => ⟨S3x128x128, .f32⟩
  | .local _ .vmem, ⟨4, _⟩ => ⟨S4x128x128, .f32⟩
  | .local _ .vmem, ⟨5, _⟩ => ⟨S4x128x128, .f32⟩
  | .local _ .vmem, ⟨6, _⟩ => ⟨S128x128, .f32⟩
  | .local _ .vmem, ⟨7, _⟩ => ⟨S128x128, .f32⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | .local _ .vmem, ⟨12, _⟩ => ⟨S1x128x128, .bf16⟩
  | .local _ .vmem, ⟨13, _⟩ => ⟨S1x128x128, .bf16⟩
  | .local _ .vmem, ⟨14, _⟩ => ⟨S1x128, .f32⟩
  | .local _ .vmem, ⟨15, _⟩ => ⟨S1x128, .f32⟩
  | .local _ .vmem, ⟨16, _⟩ => ⟨S1x128x128, .bf16⟩
  | .local _ .vmem, ⟨17, _⟩ => ⟨S1x128x128, .bf16⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S4x128x128, .bf16⟩
  | .local _ .vmem, ⟨23, _⟩ => ⟨S4x128x128, .bf16⟩
  | .local _ .vmem, ⟨24, _⟩ => ⟨S128x128, .f32⟩
  | .local _ .vmem, ⟨25, _⟩ => ⟨S128x128, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S128x4x2048 : Shape := ⟨3, ![128, 4, 2048]⟩
abbrev S128x3x2048 : Shape := ⟨3, ![128, 3, 2048]⟩
abbrev S128x2048 : Shape := ⟨2, ![128, 2048]⟩
abbrev S4x2048 : Shape := ⟨2, ![4, 2048]⟩
abbrev S2048 : Shape := ⟨1, ![2048]⟩
abbrev S16x128x128 : Shape := ⟨3, ![16, 128, 128]⟩
abbrev S128x7x2048 : Shape := ⟨3, ![128, 7, 2048]⟩
abbrev S1x2048 : Shape := ⟨2, ![1, 2048]⟩
abbrev S1x1x2048 : Shape := ⟨3, ![1, 1, 2048]⟩
abbrev S_ : Shape := ⟨0, ![]⟩
abbrev S128x4x16x128 : Shape := ⟨4, ![128, 4, 16, 128]⟩
abbrev S16x128x128x4 : Shape := ⟨4, ![16, 128, 128, 4]⟩
abbrev S128x1x2048 : Shape := ⟨3, ![128, 1, 2048]⟩

abbrev nBuf : Space → Nat
  | .hbm => 129
  | .vmem => 0
  | .smem => 0
  | _ => 0

abbrev hbmTy0_0 (i : Nat) : BufTy := match i % 128 with
  | 0 => ⟨S128x4x2048, .f32⟩
  | 1 => ⟨S128x3x2048, .f32⟩
  | 2 => ⟨S128x4x2048, .f32⟩
  | 3 => ⟨S128x2048, .f32⟩
  | 4 => ⟨S4x2048, .f32⟩
  | 5 => ⟨S2048, .f32⟩
  | 6 => ⟨S16x128x128, .f32⟩
  | 7 => ⟨S2048, .f32⟩
  | 8 => ⟨S16x128x128, .f32⟩
  | 9 => ⟨S2048, .f32⟩
  | 10 => ⟨S2048, .f32⟩
  | 11 => ⟨S128x7x2048, .f32⟩
  | 12 => ⟨S128x4x2048, .f32⟩
  | 13 => ⟨S1x2048, .f32⟩
  | 14 => ⟨S2048, .f32⟩
  | 15 => ⟨S1x1x2048, .f32⟩
  | 16 => ⟨S128x4x2048, .f32⟩
  | 17 => ⟨S128x4x2048, .f32⟩
  | 18 => ⟨S_, .f32⟩
  | 19 => ⟨S128x4x2048, .f32⟩
  | 20 => ⟨S128x4x2048, .f32⟩
  | 21 => ⟨S128x4x2048, .f32⟩
  | 22 => ⟨S1x2048, .f32⟩
  | 23 => ⟨S2048, .f32⟩
  | 24 => ⟨S1x1x2048, .f32⟩
  | 25 => ⟨S128x4x2048, .f32⟩
  | 26 => ⟨S128x4x2048, .f32⟩
  | 27 => ⟨S128x4x2048, .f32⟩
  | 28 => ⟨S128x4x2048, .f32⟩
  | 29 => ⟨S1x2048, .f32⟩
  | 30 => ⟨S2048, .f32⟩
  | 31 => ⟨S1x1x2048, .f32⟩
  | 32 => ⟨S128x4x2048, .f32⟩
  | 33 => ⟨S128x4x2048, .f32⟩
  | 34 => ⟨S128x4x2048, .f32⟩
  | 35 => ⟨S128x4x2048, .f32⟩
  | 36 => ⟨S1x2048, .f32⟩
  | 37 => ⟨S2048, .f32⟩
  | 38 => ⟨S1x1x2048, .f32⟩
  | 39 => ⟨S128x4x2048, .f32⟩
  | 40 => ⟨S128x4x2048, .f32⟩
  | 41 => ⟨S128x4x2048, .f32⟩
  | 42 => ⟨S1x1x2048, .f32⟩
  | 43 => ⟨S128x4x2048, .f32⟩
  | 44 => ⟨S128x4x2048, .f32⟩
  | 45 => ⟨S128x4x16x128, .f32⟩
  | 46 => ⟨S16x128x128x4, .f32⟩
  | 47 => ⟨S128x4x16x128, .f32⟩
  | 48 => ⟨S128x4x2048, .f32⟩
  | 49 => ⟨S1x1x2048, .f32⟩
  | 50 => ⟨S128x4x2048, .f32⟩
  | 51 => ⟨S128x4x2048, .f32⟩
  | 52 => ⟨S128x4x2048, .f32⟩
  | 53 => ⟨S128x4x2048, .f32⟩
  | 54 => ⟨S_, .f32⟩
  | 55 => ⟨S128x4x2048, .f32⟩
  | 56 => ⟨S128x4x2048, .f32⟩
  | 57 => ⟨S_, .f32⟩
  | 58 => ⟨S128x4x2048, .f32⟩
  | 59 => ⟨S128x4x2048, .f32⟩
  | 60 => ⟨S128x4x16x128, .f32⟩
  | 61 => ⟨S16x128x128x4, .f32⟩
  | 62 => ⟨S128x4x16x128, .f32⟩
  | 63 => ⟨S128x4x2048, .f32⟩
  | 64 => ⟨S1x1x2048, .f32⟩
  | 65 => ⟨S128x4x2048, .f32⟩
  | 66 => ⟨S128x4x2048, .f32⟩
  | 67 => ⟨S128x4x2048, .f32⟩
  | 68 => ⟨S128x4x2048, .f32⟩
  | 69 => ⟨S_, .f32⟩
  | 70 => ⟨S128x4x2048, .f32⟩
  | 71 => ⟨S128x4x2048, .f32⟩
  | 72 => ⟨S_, .f32⟩
  | 73 => ⟨S128x4x2048, .f32⟩
  | 74 => ⟨S128x4x2048, .f32⟩
  | 75 => ⟨S_, .f32⟩
  | 76 => ⟨S128x4x2048, .f32⟩
  | 77 => ⟨S128x4x2048, .f32⟩
  | 78 => ⟨S2048, .f32⟩
  | 79 => ⟨S_, .f32⟩
  | 80 => ⟨S2048, .f32⟩
  | 81 => ⟨S2048, .f32⟩
  | 82 => ⟨S2048, .f32⟩
  | 83 => ⟨S2048, .f32⟩
  | 84 => ⟨S2048, .i1⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S1x1x2048, .f32⟩
  | 94 => ⟨S128x4x2048, .f32⟩
  | 95 => ⟨S128x4x2048, .f32⟩
  | 96 => ⟨S128x4x2048, .f32⟩
  | 97 => ⟨S_, .f32⟩
  | 98 => ⟨S128x4x2048, .f32⟩
  | 99 => ⟨S128x4x2048, .f32⟩
  | 100 => ⟨S128x4x2048, .f32⟩
  | 101 => ⟨S128x4x2048, .f32⟩
  | 102 => ⟨S128x4x2048, .f32⟩
  | 103 => ⟨S128x4x2048, .f32⟩
  | 104 => ⟨S128x4x2048, .f32⟩
  | 105 => ⟨S128x1x2048, .f32⟩
  | 106 => ⟨S128x2048, .f32⟩
  | 107 => ⟨S128x2048, .f32⟩
  | 108 => ⟨S128x1x2048, .f32⟩
  | 109 => ⟨S128x2048, .f32⟩
  | 110 => ⟨S128x2048, .f32⟩
  | 111 => ⟨S128x1x2048, .f32⟩
  | 112 => ⟨S128x2048, .f32⟩
  | 113 => ⟨S128x2048, .f32⟩
  | 114 => ⟨S128x1x2048, .f32⟩
  | 115 => ⟨S128x2048, .f32⟩
  | 116 => ⟨S128x2048, .f32⟩
  | 117 => ⟨S128x1x2048, .f32⟩
  | 118 => ⟨S128x2048, .f32⟩
  | 119 => ⟨S128x2048, .f32⟩
  | 120 => ⟨S128x1x2048, .f32⟩
  | 121 => ⟨S128x2048, .f32⟩
  | 122 => ⟨S128x2048, .f32⟩
  | 123 => ⟨S128x1x2048, .f32⟩
  | 124 => ⟨S128x2048, .f32⟩
  | 125 => ⟨S128x2048, .f32⟩
  | 126 => ⟨S128x1x2048, .f32⟩
  | 127 => ⟨S128x2048, .f32⟩
  | _ => ⟨S128x4x2048, .f32⟩

abbrev hbmTy0_1 (i : Nat) : BufTy := match i % 128 with
  | 0 => ⟨S128x2048, .f32⟩
  | _ => ⟨S128x4x2048, .f32⟩

abbrev hbmTy (i : Nat) : BufTy := match i / 128 with
  | 0 => hbmTy0_0 i
  | 1 => hbmTy0_1 i
  | _ => ⟨S128x4x2048, .f32⟩

abbrev bufTy : (tb : Table) → Fin (tcTables nBuf tb) → BufTy
  | .hbm, ⟨i, _⟩ => hbmTy i
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_0 : Ref sig .tc := ⟨.hbm, 54, rfl⟩
abbrev main_v42 : Ref sig .tc := ⟨.hbm, 55, rfl⟩
abbrev main_v43 : Ref sig .tc := ⟨.hbm, 56, rfl⟩
abbrev main_cst_1 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_2 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_cst_4 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_5 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩

abbrev nD : Nat := 1
abbrev τ : Topo := Topo.v7x

variable {F : FTy → Type} [FloatOps F]
-- ==== Proof.AttnPay.lean ====
module

public import proofs.«01_k».proof.Defs
public import proofs.«01_k».proof.Proof.Gen.KernelIdeal.Skeleton
public import proofs.«01_k».proof.Proof.Gen.KernelIdeal
public import Idealize.ShloMosaic.Lib.Tactic.ValueTie

@[expose] public section

/-! What one grid step of the attention computes at a row, over the key block, the query block and the state it finds. -/

set_option maxRecDepth 16384

noncomputable section

namespace Cert.Proof.Attn

open Cert.KernelIdeal Cert.KernelIdeal.Gen Idealize.ShloMosaic Idealize.ShloMosaic.TcCoe Idealize.SL.Sem

/-- The named scale. -/
def kap : EReal := Named.named (F := Ideal) (φ := .f32) κ "scale_log2e" 0x3DD53B95#32

/-- The float word of minus infinity. -/
def ninf : EReal := Ideal.ofBits FTy.f32 0xFF800000#32

/-- The new running maximum of a row: the old one against the block's scores. -/
def nM (M : EReal) (s : Fin 512 → EReal) : EReal := max M (Finset.fold max ninf s Finset.univ)

/-- The factor by which a row's old sums shrink. -/
def al (M : EReal) (s : Fin 512 → EReal) : EReal := FloatOps.exp2 (F := Ideal) (φ := .f32) ((M - nM M s) * kap)

/-- A key's weight in a row. -/
def pw (M : EReal) (s : Fin 512 → EReal) (k : Fin 512) : EReal := FloatOps.exp2 (F := Ideal) (φ := .f32) ((s k - nM M s) * kap)

/-- A row's score of a key of the block: the row of head `r / 128` and query `r % 128`. -/
def S (K : S512x640.Idx → EReal) (Q : S1x16x128x640.Idx → EReal) (r : Fin 2048) (k : Fin 512) : EReal :=
  ∑ d : Fin 640, Q (ix4 0 (⟨r.val / 128, by omega⟩ : Fin 16) (⟨r.val % 128, by omega⟩ : Fin 128) d) * K (ix2 k d)

variable (K : S512x640.Idx → EReal) (Q : S1x16x128x640.Idx → EReal) (M L : S2048x1.Idx → EReal) (A : S2048x512.Idx → EReal)

/-- An unmasked score. -/
theorem pay11_at (r : Fin 2048) (k : Fin 512) : (k0_pay11 (F := Ideal) K Q (ix2 r k) : EReal) = S K Q r k := by
  unfold k0_pay11 k0_pay10 S
  pointwise

/-- The new maximum, unmasked. -/
theorem pay12_at (r : Fin 2048) : (k0_pay12 (F := Ideal) K Q M (ix2 r 0) : EReal) = nM (M (ix2 r 0)) (S K Q r) := by
  unfold k0_pay12 nM
  pointwise
  simp only [pay11_at]
  rfl

/-- The rescaling factor, unmasked. -/
theorem pay13_at (r : Fin 2048) : (k0_pay13 (F := Ideal) K Q M (ix2 r 0) : EReal) = al (M (ix2 r 0)) (S K Q r) := by
  unfold k0_pay13 al
  pointwise
  simp only [pay12_at]
  rfl

/-- A weight, unmasked. -/
theorem pay14_at (r : Fin 2048) (k : Fin 512) : (k0_pay14 (F := Ideal) K Q M (ix2 r k) : EReal) = pw (M (ix2 r 0)) (S K Q r) k := by
  unfold k0_pay14 pw
  pointwise
  simp only [pay12_at, pay11_at]
  rfl

/-- The new sum of weights, unmasked. -/
theorem pay15_at (r : Fin 2048) : (k0_pay15 (F := Ideal) K Q M L (ix2 r 0) : EReal)
    = al (M (ix2 r 0)) (S K Q r) * L (ix2 r 0) + ∑ k, pw (M (ix2 r 0)) (S K Q r) k := by
  unfold k0_pay15
  pointwise
  simp only [pay13_at, pay14_at]

/-- The new accumulator, unmasked. -/
theorem pay16_at (r : Fin 2048) (l : Fin 512) : (k0_pay16 (F := Ideal) K Q M A (ix2 r l) : EReal)
    = al (M (ix2 r 0)) (S K Q r) * A (ix2 r l) + ∑ k, pw (M (ix2 r 0)) (S K Q r) k * K (ix2 k (⟨l.val, by omega⟩ : Fin 640)) := by
  unfold k0_pay16 k0_pay10
  pointwise
  simp only [pay13_at, pay14_at]

/-- A row's score in the block on the diagonal: a key past the query has minus infinity. Query tile `i`, key block `j`. -/
def Sm (i j : ℕ) (r : Fin 2048) (k : Fin 512) : EReal := if 512 * j + k.val ≤ 128 * i + r.val % 128 then S K Q r k else ninf

/-- The comparison of key and query positions, on words. -/
theorem mask_at (i j r k : ℕ) (hi : i < 16) (hj : j < 4) (hr : r < 2048) (hk : k < 512) :
    IntOp.cmpi CmpIPredicate.sle (IntOp.addi (Scalar.muli (BitVec.ofNat 32 j) 512#32) (BitVec.ofNat 32 k))
        (IntOp.addi (Scalar.muli (BitVec.ofNat 32 i) 128#32) (IntOp.andi (BitVec.ofNat 32 r) 127#32))
      = if 512 * j + k ≤ 128 * i + r % 128 then 1#1 else 0#1 := by
  have ha : BitVec.ofNat 32 r &&& 127#32 = BitVec.ofNat 32 (r % 128) := by
    apply BitVec.eq_of_toNat_eq
    rw [BitVec.toNat_and, BitVec.toNat_ofNat, BitVec.toNat_ofNat, BitVec.toNat_ofNat, Nat.mod_eq_of_lt (show r < 2 ^ 32 by omega),
      Nat.mod_eq_of_lt (show 127 < 2 ^ 32 by omega), Nat.mod_eq_of_lt (show r % 128 < 2 ^ 32 by omega)]
    exact Nat.and_two_pow_sub_one_eq_mod r 7
  have hx : BitVec.ofNat 32 j * 512#32 + BitVec.ofNat 32 k = BitVec.ofNat 32 (512 * j + k) := by
    apply BitVec.eq_of_toNat_eq
    simp only [BitVec.toNat_add, BitVec.toNat_mul, BitVec.toNat_ofNat]
    omega
  have hy : BitVec.ofNat 32 i * 128#32 + BitVec.ofNat 32 (r % 128) = BitVec.ofNat 32 (128 * i + r % 128) := by
    apply BitVec.eq_of_toNat_eq
    simp only [BitVec.toNat_add, BitVec.toNat_mul, BitVec.toNat_ofNat]
    omega
  show BitVec.ofBool (BitVec.sle (BitVec.ofNat 32 j * 512#32 + BitVec.ofNat 32 k) (BitVec.ofNat 32 i * 128#32 + (BitVec.ofNat 32 r &&& 127#32))) = _
  rw [ha, hx, hy, BitVec.sle_eq_decide, BitVec.toInt_eq_toNat_of_lt (by rw [BitVec.toNat_ofNat]; omega),
    BitVec.toInt_eq_toNat_of_lt (by rw [BitVec.toNat_ofNat]; omega), BitVec.toNat_ofNat, BitVec.toNat_ofNat,
    Nat.mod_eq_of_lt (by omega), Nat.mod_eq_of_lt (by omega)]
  by_cases h : 512 * j + k ≤ 128 * i + r % 128
  · rw [if_pos h, decide_eq_true (by omega)]; rfl
  · rw [if_neg h, decide_eq_false (by omega)]; rfl

/-- A masked score. -/
theorem pay19_at (i j : ℕ) (hi : i < 16) (hj : j < 4) (r : Fin 2048) (k : Fin 512) :
    (k0_pay19 (F := Ideal) (BitVec.ofNat 32 i) (BitVec.ofNat 32 j) K Q (ix2 r k) : EReal) = Sm K Q i j r k := by
  unfold k0_pay19 k0_pay17 Sm
  pointwise
  rw [mask_at i j r.val k.val hi hj r.isLt k.isLt]
  split_ifs <;> rfl

/-- The new maximum, masked. -/
theorem pay20_at (i j : ℕ) (hi : i < 16) (hj : j < 4) (r : Fin 2048) :
    (k0_pay20 (F := Ideal) (BitVec.ofNat 32 i) (BitVec.ofNat 32 j) K Q M (ix2 r 0) : EReal) = nM (M (ix2 r 0)) (Sm K Q i j r) := by
  unfold k0_pay20 nM
  pointwise
  simp only [pay19_at K Q i j hi hj]
  rfl

/-- The rescaling factor, masked. -/
theorem pay21_at (i j : ℕ) (hi : i < 16) (hj : j < 4) (r : Fin 2048) :
    (k0_pay21 (F := Ideal) (BitVec.ofNat 32 i) (BitVec.ofNat 32 j) K Q M (ix2 r 0) : EReal) = al (M (ix2 r 0)) (Sm K Q i j r) := by
  unfold k0_pay21 al
  pointwise
  simp only [pay20_at K Q M i j hi hj]
  rfl

/-- A weight, masked. -/
theorem pay22_at (i j : ℕ) (hi : i < 16) (hj : j < 4) (r : Fin 2048) (k : Fin 512) :
    (k0_pay22 (F := Ideal) (BitVec.ofNat 32 i) (BitVec.ofNat 32 j) K Q M (ix2 r k) : EReal) = pw (M (ix2 r 0)) (Sm K Q i j r) k := by
  unfold k0_pay22 pw
  pointwise
  simp only [pay20_at K Q M i j hi hj, pay19_at K Q i j hi hj]
  rfl

/-- The new sum of weights, masked. -/
theorem pay23_at (i j : ℕ) (hi : i < 16) (hj : j < 4) (r : Fin 2048) :
    (k0_pay23 (F := Ideal) (BitVec.ofNat 32 i) (BitVec.ofNat 32 j) K Q M L (ix2 r 0) : EReal)
    = al (M (ix2 r 0)) (Sm K Q i j r) * L (ix2 r 0) + ∑ k, pw (M (ix2 r 0)) (Sm K Q i j r) k := by
  unfold k0_pay23
  pointwise
  simp only [pay21_at K Q M i j hi hj, pay22_at K Q M i j hi hj]

/-- The new accumulator, masked. -/
theorem pay6_at (i j : ℕ) (hi : i < 16) (hj : j < 4) (r : Fin 2048) (l : Fin 512) :
    (k0_pay6 (F := Ideal) (k0_pay18 K) (k0_pay21 (BitVec.ofNat 32 i) (BitVec.ofNat 32 j) K Q M)
      (k0_pay22 (BitVec.ofNat 32 i) (BitVec.ofNat 32 j) K Q M) A (ix2 r l) : EReal)
    = al (M (ix2 r 0)) (Sm K Q i j r) * A (ix2 r l)
      + ∑ k, pw (M (ix2 r 0)) (Sm K Q i j r) k * K (ix2 k (⟨l.val, by omega⟩ : Fin 640)) := by
  unfold k0_pay6 k0_pay18 k0_pay17
  pointwise
  simp only [pay21_at K Q M i j hi hj, pay22_at K Q M i j hi hj]

/-- A stored column is itself. -/
theorem pay4_at (X : S2048x1.Idx → EReal) (r : Fin 2048) : (k0_pay4 (F := Ideal) X (ix2 r 0) : EReal) = X (ix2 r 0) := by
  unfold k0_pay4
  pointwise

/-- A stored column is itself. -/
theorem pay5_at (X : S2048x1.Idx → EReal) (r : Fin 2048) : (k0_pay5 (F := Ideal) X (ix2 r 0) : EReal) = X (ix2 r 0) := by
  unfold k0_pay5
  pointwise

/-- A stored column is itself. -/
theorem pay7_at (X : S2048x1.Idx → EReal) (r : Fin 2048) : (k0_pay7 (F := Ideal) X (ix2 r 0) : EReal) = X (ix2 r 0) := by
  unfold k0_pay7
  pointwise

/-- The running maximum starts at its named start. -/
theorem pay1_at (r : Fin 2048) : (k0_pay1 (F := Ideal) (ix2 r 0) : EReal) = ninf := by
  unfold k0_pay1
  pointwise
  rfl

/-- The sum of weights starts at zero. -/
theorem pay2_at (r : Fin 2048) : (k0_pay2 (F := Ideal) (ix2 r 0) : EReal) = 0 := by
  unfold k0_pay2
  pointwise

/-- The accumulator starts at zero. -/
theorem pay3_at (r : Fin 2048) (l : Fin 512) : (k0_pay3 (F := Ideal) (ix2 r l) : EReal) = 0 := by
  unfold k0_pay3
  pointwise

/-- One head's product of the normalised sums with its value matrix. -/
def hd (A : S128x512.Idx → EReal) (L : S128x1.Idx → EReal) (W : S1x512x128.Idx → EReal) (q d : Fin 128) : EReal :=
  ∑ l : Fin 512, Ideal.div (A (ix2 q l)) (L (ix2 q 0)) * W (ix3 0 l d)

/-- One head of the output block. -/
theorem pay24_at (A : S128x512.Idx → EReal) (L : S128x1.Idx → EReal) (W : S1x512x128.Idx → EReal) (q d : Fin 128) :
    (k0_pay24 (F := Ideal) A L W (ix2 q d) : EReal) = hd A L W q d := by
  unfold k0_pay24 hd
  pointwise
  done

end Cert.Proof.Attn

end
-- ==== Proof.AttnOut.lean ====
module

public import proofs.«01_k».proof.Defs
public import proofs.«01_k».proof.Proof.Gen.KernelIdeal.Value
public import proofs.«01_k».proof.Proof.AttnPay
public import Idealize.ShloMosaic.Lib.Tactic.ValueTie
public import Idealize.ShloMosaic.Lib.Pipeline.ValueKit
public import Idealize.ShloMosaic.Lib.Pipeline.ReadBack

@[expose] public section

/-! What the last step of a query tile stores: the sixteen heads' blocks, read at an index. -/

set_option maxRecDepth 16384

noncomputable section

namespace Cert.Proof.Attn

open Cert.KernelIdeal Cert.KernelIdeal.Gen Idealize.ShloMosaic Idealize.ShloMosaic.TcCoe Idealize.SL.Sem

/-- The state's row of output row `q` and output column `j`: head `j / 128`, query `q`. -/
def srow (q : Fin 128) (j : Fin 2048) : Fin 2048 := ⟨j.val / 128 * 128 + q.val, by omega⟩

/-- An element of the output block over the state. -/
def OUT (A : S2048x512.Idx → EReal) (L : S2048x1.Idx → EReal) (W : S16x512x128.Idx → EReal) (q : Fin 128) (j : Fin 2048) : EReal :=
  ∑ l : Fin 512, Ideal.div (A (ix2 (srow q j) l)) (L (ix2 (srow q j) 0))
    * W (ix3 (⟨j.val / 128, by omega⟩ : Fin 16) l (⟨j.val % 128, by omega⟩ : Fin 128))

variable (A : S2048x512.Idx → EReal) (L : S2048x1.Idx → EReal) (W : S16x512x128.Idx → EReal)

/-- One head's block, at an index. -/
theorem head_eq (n o : ℕ) (hn : n < 16) (ho : o = 128 * n) (inbA : ∀ a, (![o, 0] : Fin 2 → ℕ) a + (![128, 512] : Fin 2 → ℕ) a ≤ S2048x512.size a)
    (inbL : ∀ a, (![o, 0] : Fin 2 → ℕ) a + (![128, 1] : Fin 2 → ℕ) a ≤ S2048x1.size a)
    (inbW : ∀ a, (![n, 0, 0] : Fin 3 → ℕ) a + (![1, 512, 128] : Fin 3 → ℕ) a ≤ S16x512x128.size a)
    (x : S128x128.Idx) (q : Fin 128) (j : Fin 2048) (h0 : q.val = (x 0).val) (h1 : j.val = o + (x 1).val) :
    k0_pay24 (F := Ideal) (View.ld (Val := Elt Ideal) (S := S2048x512) (e' := .f32) A (Rect.unit (s := S2048x512) ![o, 0] ![128, 512] inbA)) (View.ld (Val := Elt Ideal) (S := S2048x1) (e' := .f32) L (Rect.unit (s := S2048x1) ![o, 0] ![128, 1] inbL))
      (View.ld (Val := Elt Ideal) (S := S16x512x128) (e' := .bf16) W (Rect.unit (s := S16x512x128) ![n, 0, 0] ![1, 512, 128] inbW)) x = OUT A L W q j := by
  obtain ⟨a, b, rfl⟩ : ∃ (a b : Fin 128), x = ix2 a b := ⟨x 0, x 1, by funext a; fin_cases a <;> rfl⟩
  have h0 : q.val = a.val := h0
  have h1 : j.val = o + b.val := h1
  rw [pay24_at]
  unfold hd OUT
  refine Finset.sum_congr rfl fun l _ => ?_
  refine congrArg₂ (· * ·) (congrArg₂ Ideal.div ?_ ?_) ?_
  · refine View.ld_unit_apply_of (Val := Elt Ideal) (e := .f32) A _ _ inbA _ _ fun d => ?_
    fin_cases d
    · show j.val / 128 * 128 + q.val = o + a.val
      omega
    · show l.val = 0 + l.val
      omega
  · refine View.ld_unit_apply_of (Val := Elt Ideal) (e := .f32) L _ _ inbL _ _ fun d => ?_
    fin_cases d
    · show j.val / 128 * 128 + q.val = o + a.val
      omega
    · rfl
  · refine View.ld_unit_apply_of (Val := Elt Ideal) (e := .bf16) W _ _ inbW _ _ fun d => ?_
    fin_cases d
    · show j.val / 128 = n + 0
      omega
    · show l.val = 0 + l.val
      omega
    · show j.val % 128 = 0 + b.val
      omega

/-- The sixteen blocks, at an index. -/
theorem tiles (y : S128x2048.Idx) : View.canon (Val := Elt Ideal) (s := S128x2048) (e := .bf16) [
      ⟨Rect.unit (s := S128x2048) ![0, 1920] ![128, 128] inb_S128x2048_S128x128_0_1920, k0_pay9 (F := Ideal) (View.ld (Val := Elt Ideal) (S := S2048x512) (e' := .f32) A (Rect.unit (s := S2048x512) ![1920, 0] ![128, 512] inb_S2048x512_S128x512_1920_0)) (View.ld (Val := Elt Ideal) (S := S2048x1) (e' := .f32) L (Rect.unit (s := S2048x1) ![1920, 0] ![128, 1] inb_S2048x1_S128x1_1920_0)) (View.ld (Val := Elt Ideal) (S := S16x512x128) (e' := .bf16) W (Rect.unit (s := S16x512x128) ![15, 0, 0] ![1, 512, 128] inb_S16x512x128_S1x512x128_15_0_0))⟩,
      ⟨Rect.unit (s := S128x2048) ![0, 1792] ![128, 128] inb_S128x2048_S128x128_0_1792, k0_pay8 (F := Ideal) (View.ld (Val := Elt Ideal) (S := S2048x512) (e' := .f32) A (Rect.unit (s := S2048x512) ![1792, 0] ![128, 512] inb_S2048x512_S128x512_1792_0)) (View.ld (Val := Elt Ideal) (S := S2048x1) (e' := .f32) L (Rect.unit (s := S2048x1) ![1792, 0] ![128, 1] inb_S2048x1_S128x1_1792_0)) (View.ld (Val := Elt Ideal) (S := S16x512x128) (e' := .bf16) W (Rect.unit (s := S16x512x128) ![14, 0, 0] ![1, 512, 128] inb_S16x512x128_S1x512x128_14_0_0))⟩,
      ⟨Rect.unit (s := S128x2048) ![0, 1664] ![128, 128] inb_S128x2048_S128x128_0_1664, k0_pay41 (F := Ideal) (View.ld (Val := Elt Ideal) (S := S2048x512) (e' := .f32) A (Rect.unit (s := S2048x512) ![1664, 0] ![128, 512] inb_S2048x512_S128x512_1664_0)) (View.ld (Val := Elt Ideal) (S := S2048x1) (e' := .f32) L (Rect.unit (s := S2048x1) ![1664, 0] ![128, 1] inb_S2048x1_S128x1_1664_0)) (View.ld (Val := Elt Ideal) (S := S16x512x128) (e' := .bf16) W (Rect.unit (s := S16x512x128) ![13, 0, 0] ![1, 512, 128] inb_S16x512x128_S1x512x128_13_0_0))⟩,
      ⟨Rect.unit (s := S128x2048) ![0, 1536] ![128, 128] inb_S128x2048_S128x128_0_1536, k0_pay40 (F := Ideal) (View.ld (Val := Elt Ideal) (S := S2048x512) (e' := .f32) A (Rect.unit (s := S2048x512) ![1536, 0] ![128, 512] inb_S2048x512_S128x512_1536_0)) (View.ld (Val := Elt Ideal) (S := S2048x1) (e' := .f32) L (Rect.unit (s := S2048x1) ![1536, 0] ![128, 1] inb_S2048x1_S128x1_1536_0)) (View.ld (Val := Elt Ideal) (S := S16x512x128) (e' := .bf16) W (Rect.unit (s := S16x512x128) ![12, 0, 0] ![1, 512, 128] inb_S16x512x128_S1x512x128_12_0_0))⟩,
      ⟨Rect.unit (s := S128x2048) ![0, 1408] ![128, 128] inb_S128x2048_S128x128_0_1408, k0_pay39 (F := Ideal) (k0_pay38 (View.ld (Val := Elt Ideal) (S := S2048x512) (e' := .f32) A (Rect.unit (s := S2048x512) ![1408, 0] ![128, 512] inb_S2048x512_S128x512_1408_0)) (View.ld (Val := Elt Ideal) (S := S2048x1) (e' := .f32) L (Rect.unit (s := S2048x1) ![1408, 0] ![128, 1] inb_S2048x1_S128x1_1408_0))) (View.ld (Val := Elt Ideal) (S := S16x512x128) (e' := .bf16) W (Rect.unit (s := S16x512x128) ![11, 0, 0] ![1, 512, 128] inb_S16x512x128_S1x512x128_11_0_0))⟩,
      ⟨Rect.unit (s := S128x2048) ![0, 1280] ![128, 128] inb_S128x2048_S128x128_0_1280, k0_pay37 (F := Ideal) (View.ld (Val := Elt Ideal) (S := S2048x512) (e' := .f32) A (Rect.unit (s := S2048x512) ![1280, 0] ![128, 512] inb_S2048x512_S128x512_1280_0)) (View.ld (Val := Elt Ideal) (S := S2048x1) (e' := .f32) L (Rect.unit (s := S2048x1) ![1280, 0] ![128, 1] inb_S2048x1_S128x1_1280_0)) (View.ld (Val := Elt Ideal) (S := S16x512x128) (e' := .bf16) W (Rect.unit (s := S16x512x128) ![10, 0, 0] ![1, 512, 128] inb_S16x512x128_S1x512x128_10_0_0))⟩,
      ⟨Rect.unit (s := S128x2048) ![0, 1152] ![128, 128] inb_S128x2048_S128x128_0_1152, k0_pay36 (F := Ideal) (View.ld (Val := Elt Ideal) (S := S2048x512) (e' := .f32) A (Rect.unit (s := S2048x512) ![1152, 0] ![128, 512] inb_S2048x512_S128x512_1152_0)) (View.ld (Val := Elt Ideal) (S := S2048x1) (e' := .f32) L (Rect.unit (s := S2048x1) ![1152, 0] ![128, 1] inb_S2048x1_S128x1_1152_0)) (View.ld (Val := Elt Ideal) (S := S16x512x128) (e' := .bf16) W (Rect.unit (s := S16x512x128) ![9, 0, 0] ![1, 512, 128] inb_S16x512x128_S1x512x128_9_0_0))⟩,
      ⟨Rect.unit (s := S128x2048) ![0, 1024] ![128, 128] inb_S128x2048_S128x128_0_1024, k0_pay35 (F := Ideal) (k0_pay34 (View.ld (Val := Elt Ideal) (S := S2048x512) (e' := .f32) A (Rect.unit (s := S2048x512) ![1024, 0] ![128, 512] inb_S2048x512_S128x512_1024_0)) (View.ld (Val := Elt Ideal) (S := S2048x1) (e' := .f32) L (Rect.unit (s := S2048x1) ![1024, 0] ![128, 1] inb_S2048x1_S128x1_1024_0))) (View.ld (Val := Elt Ideal) (S := S16x512x128) (e' := .bf16) W (Rect.unit (s := S16x512x128) ![8, 0, 0] ![1, 512, 128] inb_S16x512x128_S1x512x128_8_0_0))⟩,
      ⟨Rect.unit (s := S128x2048) ![0, 896] ![128, 128] inb_S128x2048_S128x128_0_896, k0_pay33 (F := Ideal) (View.ld (Val := Elt Ideal) (S := S2048x512) (e' := .f32) A (Rect.unit (s := S2048x512) ![896, 0] ![128, 512] inb_S2048x512_S128x512_896_0)) (View.ld (Val := Elt Ideal) (S := S2048x1) (e' := .f32) L (Rect.unit (s := S2048x1) ![896, 0] ![128, 1] inb_S2048x1_S128x1_896_0)) (View.ld (Val := Elt Ideal) (S := S16x512x128) (e' := .bf16) W (Rect.unit (s := S16x512x128) ![7, 0, 0] ![1, 512, 128] inb_S16x512x128_S1x512x128_7_0_0))⟩,
      ⟨Rect.unit (s := S128x2048) ![0, 768] ![128, 128] inb_S128x2048_S128x128_0_768, k0_pay32 (F := Ideal) (View.ld (Val := Elt Ideal) (S := S2048x512) (e' := .f32) A (Rect.unit (s := S2048x512) ![768, 0] ![128, 512] inb_S2048x512_S128x512_768_0)) (View.ld (Val := Elt Ideal) (S := S2048x1) (e' := .f32) L (Rect.unit (s := S2048x1) ![768, 0] ![128, 1] inb_S2048x1_S128x1_768_0)) (View.ld (Val := Elt Ideal) (S := S16x512x128) (e' := .bf16) W (Rect.unit (s := S16x512x128) ![6, 0, 0] ![1, 512, 128] inb_S16x512x128_S1x512x128_6_0_0))⟩,
      ⟨Rect.unit (s := S128x2048) ![0, 640] ![128, 128] inb_S128x2048_S128x128_0_640, k0_pay31 (F := Ideal) (k0_pay29 (View.ld (Val := Elt Ideal) (S := S2048x512) (e' := .f32) A (Rect.unit (s := S2048x512) ![640, 0] ![128, 512] inb_S2048x512_S128x512_640_0)) (View.ld (Val := Elt Ideal) (S := S2048x1) (e' := .f32) L (Rect.unit (s := S2048x1) ![640, 0] ![128, 1] inb_S2048x1_S128x1_640_0))) (k0_pay30 (View.ld (Val := Elt Ideal) (S := S16x512x128) (e' := .bf16) W (Rect.unit (s := S16x512x128) ![5, 0, 0] ![1, 512, 128] inb_S16x512x128_S1x512x128_5_0_0))) (constant S128x128 .f32 0x00000000#32)⟩,
      ⟨Rect.unit (s := S128x2048) ![0, 512] ![128, 128] inb_S128x2048_S128x128_0_512, k0_pay28 (F := Ideal) (View.ld (Val := Elt Ideal) (S := S2048x512) (e' := .f32) A (Rect.unit (s := S2048x512) ![512, 0] ![128, 512] inb_S2048x512_S128x512_512_0)) (View.ld (Val := Elt Ideal) (S := S2048x1) (e' := .f32) L (Rect.unit (s := S2048x1) ![512, 0] ![128, 1] inb_S2048x1_S128x1_512_0)) (View.ld (Val := Elt Ideal) (S := S16x512x128) (e' := .bf16) W (Rect.unit (s := S16x512x128) ![4, 0, 0] ![1, 512, 128] inb_S16x512x128_S1x512x128_4_0_0))⟩,
      ⟨Rect.unit (s := S128x2048) ![0, 384] ![128, 128] inb_S128x2048_S128x128_0_384, k0_pay27 (F := Ideal) (View.ld (Val := Elt Ideal) (S := S2048x512) (e' := .f32) A (Rect.unit (s := S2048x512) ![384, 0] ![128, 512] inb_S2048x512_S128x512_384_0)) (View.ld (Val := Elt Ideal) (S := S2048x1) (e' := .f32) L (Rect.unit (s := S2048x1) ![384, 0] ![128, 1] inb_S2048x1_S128x1_384_0)) (View.ld (Val := Elt Ideal) (S := S16x512x128) (e' := .bf16) W (Rect.unit (s := S16x512x128) ![3, 0, 0] ![1, 512, 128] inb_S16x512x128_S1x512x128_3_0_0))⟩,
      ⟨Rect.unit (s := S128x2048) ![0, 256] ![128, 128] inb_S128x2048_S128x128_0_256, k0_pay26 (F := Ideal) (View.ld (Val := Elt Ideal) (S := S2048x512) (e' := .f32) A (Rect.unit (s := S2048x512) ![256, 0] ![128, 512] inb_S2048x512_S128x512_256_0)) (View.ld (Val := Elt Ideal) (S := S2048x1) (e' := .f32) L (Rect.unit (s := S2048x1) ![256, 0] ![128, 1] inb_S2048x1_S128x1_256_0)) (View.ld (Val := Elt Ideal) (S := S16x512x128) (e' := .bf16) W (Rect.unit (s := S16x512x128) ![2, 0, 0] ![1, 512, 128] inb_S16x512x128_S1x512x128_2_0_0))⟩,
      ⟨Rect.unit (s := S128x2048) ![0, 128] ![128, 128] inb_S128x2048_S128x128_0_128, k0_pay25 (F := Ideal) (View.ld (Val := Elt Ideal) (S := S2048x512) (e' := .f32) A (Rect.unit (s := S2048x512) ![128, 0] ![128, 512] inb_S2048x512_S128x512_128_0)) (View.ld (Val := Elt Ideal) (S := S2048x1) (e' := .f32) L (Rect.unit (s := S2048x1) ![128, 0] ![128, 1] inb_S2048x1_S128x1_128_0)) (View.ld (Val := Elt Ideal) (S := S16x512x128) (e' := .bf16) W (Rect.unit (s := S16x512x128) ![1, 0, 0] ![1, 512, 128] inb_S16x512x128_S1x512x128_1_0_0))⟩,
      ⟨Rect.unit (s := S128x2048) ![0, 0] ![128, 128] inb_S128x2048_S128x128_0_0, k0_pay24 (F := Ideal) (View.ld (Val := Elt Ideal) (S := S2048x512) (e' := .f32) A (Rect.unit (s := S2048x512) ![0, 0] ![128, 512] inb_S2048x512_S128x512_0_0)) (View.ld (Val := Elt Ideal) (S := S2048x1) (e' := .f32) L (Rect.unit (s := S2048x1) ![0, 0] ![128, 1] inb_S2048x1_S128x1_0_0)) (View.ld (Val := Elt Ideal) (S := S16x512x128) (e' := .bf16) W (Rect.unit (s := S16x512x128) ![0, 0, 0] ![1, 512, 128] inb_S16x512x128_S1x512x128_0_0_0))⟩] y
    = OUT A L W (y 0) (y 1) := by
  canon_tiles x h
  · exact head_eq A L W 15 1920 (by omega) (by omega) _ _ _ x (y 0) (y 1) (by omega) (by omega)
  · exact head_eq A L W 14 1792 (by omega) (by omega) _ _ _ x (y 0) (y 1) (by omega) (by omega)
  · exact head_eq A L W 13 1664 (by omega) (by omega) _ _ _ x (y 0) (y 1) (by omega) (by omega)
  · exact head_eq A L W 12 1536 (by omega) (by omega) _ _ _ x (y 0) (y 1) (by omega) (by omega)
  · exact head_eq A L W 11 1408 (by omega) (by omega) _ _ _ x (y 0) (y 1) (by omega) (by omega)
  · exact head_eq A L W 10 1280 (by omega) (by omega) _ _ _ x (y 0) (y 1) (by omega) (by omega)
  · exact head_eq A L W 9 1152 (by omega) (by omega) _ _ _ x (y 0) (y 1) (by omega) (by omega)
  · exact head_eq A L W 8 1024 (by omega) (by omega) _ _ _ x (y 0) (y 1) (by omega) (by omega)
  · exact head_eq A L W 7 896 (by omega) (by omega) _ _ _ x (y 0) (y 1) (by omega) (by omega)
  · exact head_eq A L W 6 768 (by omega) (by omega) _ _ _ x (y 0) (y 1) (by omega) (by omega)
  · exact head_eq A L W 5 640 (by omega) (by omega) _ _ _ x (y 0) (y 1) (by omega) (by omega)
  · exact head_eq A L W 4 512 (by omega) (by omega) _ _ _ x (y 0) (y 1) (by omega) (by omega)
  · exact head_eq A L W 3 384 (by omega) (by omega) _ _ _ x (y 0) (y 1) (by omega) (by omega)
  · exact head_eq A L W 2 256 (by omega) (by omega) _ _ _ x (y 0) (y 1) (by omega) (by omega)
  · exact head_eq A L W 1 128 (by omega) (by omega) _ _ _ x (y 0) (y 1) (by omega) (by omega)
  · exact head_eq A L W 0 0 (by omega) (by omega) _ _ _ x (y 0) (y 1) (by omega) (by omega)

end Cert.Proof.Attn

end
-- ==== Proof.AttnStep.lean ====
module

public import proofs.«01_k».proof.Defs
public import proofs.«01_k».proof.Proof.Gen.KernelIdeal.Value
public import proofs.«01_k».proof.Proof.AttnPay
public import proofs.«01_k».proof.Proof.AttnOut
public import Idealize.ShloMosaic.Lib.Tactic.ValueTie
public import Idealize.ShloMosaic.Lib.Pipeline.ValueKit
public import Idealize.ShloMosaic.Lib.Pipeline.ReadBack

@[expose] public section

/-! The attention kernel's state after each grid point, at a row, over the state before it. -/

set_option maxRecDepth 16384

noncomputable section

namespace Cert.Proof.Attn

open Cert.KernelIdeal Cert.KernelIdeal.Gen Idealize.ShloMosaic Idealize.ShloMosaic.TcCoe Idealize.SL.Sem

variable (m : (ℓ : Loc nD τ sig) → Buf (Elt Ideal) ℓ)

/-- The running maximum after point `n`. -/
def mx (c : Dev nD) (n : ℕ) (hn : n < cfg0.N) : S2048x1.Idx → EReal := (outsAt0 m c n hn).2.1
/-- The running sum after point `n`. -/
def sm (c : Dev nD) (n : ℕ) (hn : n < cfg0.N) : S2048x1.Idx → EReal := (outsAt0 m c n hn).2.2.1
/-- The accumulator after point `n`. -/
def ac (c : Dev nD) (n : ℕ) (hn : n < cfg0.N) : S2048x512.Idx → EReal := (outsAt0 m c n hn).2.2.2
/-- The output block after point `n`. -/
def ob (c : Dev nD) (n : ℕ) (hn : n < cfg0.N) : S128x2048.Idx → EReal := (outsAt0 m c n hn).1
/-- The query block of a point. -/
def qb (c : Dev nD) (t : Fin cfg0.N) : S1x16x128x640.Idx → EReal := iblk m c 0 t
/-- The key block of a point. -/
def kb (c : Dev nD) (t : Fin cfg0.N) : S512x640.Idx → EReal := iblk m c 1 t
/-- The value matrices of a point. -/
def wb (c : Dev nD) (t : Fin cfg0.N) : S16x512x128.Idx → EReal := iblk m c 2 t

/-- A grid point's query tile and key block. -/
theorem coords_eq : ∀ t : Fin cfg0.N, (grid0.coords t 1).val = t.val / 4 % 16 ∧ (grid0.coords t 2).val = t.val % 4 :=
  (by decide +kernel : ∀ t : Fin grid0.N, (grid0.coords t 1).val = t.val / 4 % 16 ∧ (grid0.coords t 2).val = t.val % 4)

/-- A row's scores of the point's key block. -/
def ss (c : Dev nD) (t : Fin cfg0.N) (r : Fin 2048) (k : Fin 512) : EReal :=
  Sm (kb m c t) (qb m c t) (t.val / 4 % 16) (t.val % 4) r k

/-- Where the whole block is before the queries, no key is masked. -/
theorem ss_all (c : Dev nD) (t : Fin cfg0.N) (h1 : 4 * (t.val % 4) + 4 ≤ t.val / 4 % 16) (r : Fin 2048) :
    S (kb m c t) (qb m c t) r = ss m c t r := by
  funext k
  unfold ss Sm
  rw [if_pos]
  have := k.isLt
  omega

/-- What a step does to a row's state. -/
def Step (c : Dev nD) (t : Fin cfg0.N) (r : Fin 2048) (M L : EReal) (A : Fin 512 → EReal) : Prop :=
  mx m c t.val t.isLt (ix2 r 0) = nM M (ss m c t r)
  ∧ sm m c t.val t.isLt (ix2 r 0) = al M (ss m c t r) * L + ∑ k, pw M (ss m c t r) k
  ∧ ∀ l : Fin 512, ac m c t.val t.isLt (ix2 r l)
      = al M (ss m c t r) * A l + ∑ k, pw M (ss m c t r) k * kb m c t (ix2 k (⟨l.val, by omega⟩ : Fin 640))

/-- A first block, unmasked. -/
theorem D_step (c : Dev nD) (t : Fin cfg0.N) (h0 : t.val % 4 = 0) (h1 : 4 * (t.val % 4) + 4 ≤ t.val / 4 % 16)
    (h2 : ¬(4 * (t.val % 4) ≤ t.val / 4 % 16 ∧ t.val / 4 % 16 ≤ 4 * (t.val % 4) + 3)) (h3 : ¬t.val % 4 = 3) (r : Fin 2048) :
    Step m c t r ninf 0 (fun _ => 0) := by
  refine ⟨?_, ?_, fun l => ?_⟩
  · unfold mx
    rw [outsAt0_D m c t h0 h1 h2 h3]
    dsimp only
    frame_out
    refine (pay4_at (k0_pay12 (F := Ideal) (kb m c t) (qb m c t) (k0_pay1 (F := Ideal))) r).trans ?_
    rw [pay12_at, pay1_at, ss_all m c t h1 r]
  · unfold sm
    rw [outsAt0_D m c t h0 h1 h2 h3]
    dsimp only
    frame_out
    refine (pay15_at (kb m c t) (qb m c t) (k0_pay1 (F := Ideal)) (k0_pay2 (F := Ideal)) r).trans ?_
    rw [pay1_at, pay2_at, ss_all m c t h1 r]
  · unfold ac
    rw [outsAt0_D m c t h0 h1 h2 h3]
    dsimp only
    frame_out
    refine (pay16_at (kb m c t) (qb m c t) (k0_pay1 (F := Ideal)) (k0_pay3 (F := Ideal)) r l).trans ?_
    rw [pay1_at, pay3_at, ss_all m c t h1 r]

/-- A further block, unmasked. -/
theorem F_step (c : Dev nD) (t : Fin cfg0.N) (h0 : ¬t.val % 4 = 0) (h1 : 4 * (t.val % 4) + 4 ≤ t.val / 4 % 16)
    (h2 : ¬(4 * (t.val % 4) ≤ t.val / 4 % 16 ∧ t.val / 4 % 16 ≤ 4 * (t.val % 4) + 3)) (h3 : ¬t.val % 4 = 3) (r : Fin 2048) (hp : t.val - 1 < cfg0.N) :
    Step m c t r (mx m c (t.val - 1) hp (ix2 r 0)) (sm m c (t.val - 1) hp (ix2 r 0)) (fun l => ac m c (t.val - 1) hp (ix2 r l)) := by
  refine ⟨?_, ?_, fun l => ?_⟩
  · unfold mx
    rw [outsAt0_F m c t h0 h1 h2 h3]
    dsimp only
    frame_out
    rw [read_unread_whole]
    refine (pay4_at (k0_pay12 (F := Ideal) (kb m c t) (qb m c t) (mx m c (t.val - 1) hp)) r).trans ?_
    rw [pay12_at, ss_all m c t h1 r]
    rfl
  · unfold sm
    rw [outsAt0_F m c t h0 h1 h2 h3]
    dsimp only
    frame_out
    rw [read_unread_whole, read_unread_whole]
    refine (pay15_at (kb m c t) (qb m c t) (mx m c (t.val - 1) hp) (sm m c (t.val - 1) hp) r).trans ?_
    rw [ss_all m c t h1 r]
    rfl
  · unfold ac
    rw [outsAt0_F m c t h0 h1 h2 h3]
    dsimp only
    frame_out
    rw [read_unread_whole, read_unread_whole]
    refine (pay16_at (kb m c t) (qb m c t) (mx m c (t.val - 1) hp) (ac m c (t.val - 1) hp) r l).trans ?_
    rw [ss_all m c t h1 r]
    rfl

/-- A first block, masked. -/
theorem A_step (c : Dev nD) (t : Fin cfg0.N) (h0 : t.val % 4 = 0) (h1 : ¬4 * (t.val % 4) + 4 ≤ t.val / 4 % 16)
    (h2 : (4 * (t.val % 4) ≤ t.val / 4 % 16 ∧ t.val / 4 % 16 ≤ 4 * (t.val % 4) + 3)) (h3 : ¬t.val % 4 = 3) (r : Fin 2048) :
    Step m c t r ninf 0 (fun _ => 0) := by
  have hi : t.val / 4 % 16 < 16 := Nat.mod_lt _ (by omega)
  have hj : t.val % 4 < 4 := Nat.mod_lt _ (by omega)
  refine ⟨?_, ?_, fun l => ?_⟩
  · unfold mx
    rw [outsAt0_A m c t h0 h1 h2 h3]
    dsimp only
    frame_out
    rw [(coords_eq t).1, (coords_eq t).2]
    refine (pay7_at (k0_pay20 (F := Ideal) (BitVec.ofNat 32 (t.val / 4 % 16)) (BitVec.ofNat 32 (t.val % 4)) (kb m c t) (qb m c t) (k0_pay1 (F := Ideal))) r).trans ?_
    rw [pay20_at _ _ _ _ _ hi hj, pay1_at]
    rfl
  · unfold sm
    rw [outsAt0_A m c t h0 h1 h2 h3]
    dsimp only
    frame_out
    rw [(coords_eq t).1, (coords_eq t).2]
    refine (pay5_at (k0_pay23 (F := Ideal) (BitVec.ofNat 32 (t.val / 4 % 16)) (BitVec.ofNat 32 (t.val % 4)) (kb m c t) (qb m c t) (k0_pay1 (F := Ideal)) (k0_pay2 (F := Ideal))) r).trans ?_
    rw [pay23_at _ _ _ _ _ _ hi hj, pay1_at, pay2_at]
    rfl
  · unfold ac
    rw [outsAt0_A m c t h0 h1 h2 h3]
    dsimp only
    frame_out
    rw [(coords_eq t).1, (coords_eq t).2]
    refine (pay6_at (kb m c t) (qb m c t) (k0_pay1 (F := Ideal)) (k0_pay3 (F := Ideal)) _ _ hi hj r l).trans ?_
    rw [pay1_at, pay3_at]
    rfl

/-- A further block, masked, not the last. -/
theorem E_step (c : Dev nD) (t : Fin cfg0.N) (h0 : ¬t.val % 4 = 0) (h1 : ¬4 * (t.val % 4) + 4 ≤ t.val / 4 % 16)
    (h2 : (4 * (t.val % 4) ≤ t.val / 4 % 16 ∧ t.val / 4 % 16 ≤ 4 * (t.val % 4) + 3)) (h3 : ¬t.val % 4 = 3) (r : Fin 2048) (hp : t.val - 1 < cfg0.N) :
    Step m c t r (mx m c (t.val - 1) hp (ix2 r 0)) (sm m c (t.val - 1) hp (ix2 r 0)) (fun l => ac m c (t.val - 1) hp (ix2 r l)) := by
  have hi : t.val / 4 % 16 < 16 := Nat.mod_lt _ (by omega)
  have hj : t.val % 4 < 4 := Nat.mod_lt _ (by omega)
  refine ⟨?_, ?_, fun l => ?_⟩
  · unfold mx
    rw [outsAt0_E m c t h0 h1 h2 h3]
    dsimp only
    frame_out
    rw [(coords_eq t).1, (coords_eq t).2, read_unread_whole]
    refine (pay7_at (k0_pay20 (F := Ideal) (BitVec.ofNat 32 (t.val / 4 % 16)) (BitVec.ofNat 32 (t.val % 4)) (kb m c t) (qb m c t) (mx m c (t.val - 1) hp)) r).trans ?_
    rw [pay20_at _ _ _ _ _ hi hj]
    rfl
  · unfold sm
    rw [outsAt0_E m c t h0 h1 h2 h3]
    dsimp only
    frame_out
    rw [(coords_eq t).1, (coords_eq t).2, read_unread_whole, read_unread_whole]
    refine (pay5_at (k0_pay23 (F := Ideal) (BitVec.ofNat 32 (t.val / 4 % 16)) (BitVec.ofNat 32 (t.val % 4)) (kb m c t) (qb m c t) (mx m c (t.val - 1) hp) (sm m c (t.val - 1) hp)) r).trans ?_
    rw [pay23_at _ _ _ _ _ _ hi hj]
    rfl
  · unfold ac
    rw [outsAt0_E m c t h0 h1 h2 h3]
    dsimp only
    frame_out
    rw [(coords_eq t).1, (coords_eq t).2, read_unread_whole, read_unread_whole]
    refine (pay6_at (kb m c t) (qb m c t) (mx m c (t.val - 1) hp) (ac m c (t.val - 1) hp) _ _ hi hj r l).trans ?_
    rfl

/-- A last block, masked. -/
theorem G_step (c : Dev nD) (t : Fin cfg0.N) (h0 : ¬t.val % 4 = 0) (h1 : ¬4 * (t.val % 4) + 4 ≤ t.val / 4 % 16)
    (h2 : (4 * (t.val % 4) ≤ t.val / 4 % 16 ∧ t.val / 4 % 16 ≤ 4 * (t.val % 4) + 3)) (h3 : t.val % 4 = 3) (r : Fin 2048) (hp : t.val - 1 < cfg0.N) :
    Step m c t r (mx m c (t.val - 1) hp (ix2 r 0)) (sm m c (t.val - 1) hp (ix2 r 0)) (fun l => ac m c (t.val - 1) hp (ix2 r l)) := by
  have hi : t.val / 4 % 16 < 16 := Nat.mod_lt _ (by omega)
  have hj : t.val % 4 < 4 := Nat.mod_lt _ (by omega)
  refine ⟨?_, ?_, fun l => ?_⟩
  · unfold mx
    rw [outsAt0_G m c t h0 h1 h2 h3]
    dsimp only
    frame_out
    rw [(coords_eq t).1, (coords_eq t).2, read_unread_whole]
    refine (pay7_at (k0_pay20 (F := Ideal) (BitVec.ofNat 32 (t.val / 4 % 16)) (BitVec.ofNat 32 (t.val % 4)) (kb m c t) (qb m c t) (mx m c (t.val - 1) hp)) r).trans ?_
    rw [pay20_at _ _ _ _ _ hi hj]
    rfl
  · unfold sm
    rw [outsAt0_G m c t h0 h1 h2 h3]
    dsimp only
    frame_out
    rw [(coords_eq t).1, (coords_eq t).2, read_unread_whole, read_unread_whole]
    refine (pay5_at (k0_pay23 (F := Ideal) (BitVec.ofNat 32 (t.val / 4 % 16)) (BitVec.ofNat 32 (t.val % 4)) (kb m c t) (qb m c t) (mx m c (t.val - 1) hp) (sm m c (t.val - 1) hp)) r).trans ?_
    rw [pay23_at _ _ _ _ _ _ hi hj]
    rfl
  · unfold ac
    rw [outsAt0_G m c t h0 h1 h2 h3]
    dsimp only
    frame_out
    rw [(coords_eq t).1, (coords_eq t).2, read_unread_whole, read_unread_whole]
    refine (pay6_at (kb m c t) (qb m c t) (mx m c (t.val - 1) hp) (ac m c (t.val - 1) hp) _ _ hi hj r l).trans ?_
    rfl

/-- Where every key of the block is past the queries, the state stays. -/
theorem B_step (c : Dev nD) (t : Fin cfg0.N) (h0 : ¬t.val % 4 = 0) (h1 : ¬4 * (t.val % 4) + 4 ≤ t.val / 4 % 16)
    (h2 : ¬(4 * (t.val % 4) ≤ t.val / 4 % 16 ∧ t.val / 4 % 16 ≤ 4 * (t.val % 4) + 3)) (h3 : ¬t.val % 4 = 3) (hp : t.val - 1 < cfg0.N) :
    mx m c t.val t.isLt = mx m c (t.val - 1) hp ∧ sm m c t.val t.isLt = sm m c (t.val - 1) hp ∧ ac m c t.val t.isLt = ac m c (t.val - 1) hp := by
  unfold mx sm ac
  rw [outsAt0_B m c t h0 h1 h2 h3]
  exact ⟨rfl, rfl, rfl⟩

/-- A hidden last block leaves the state. -/
theorem C_step (c : Dev nD) (t : Fin cfg0.N) (h0 : ¬t.val % 4 = 0) (h1 : ¬4 * (t.val % 4) + 4 ≤ t.val / 4 % 16)
    (h2 : ¬(4 * (t.val % 4) ≤ t.val / 4 % 16 ∧ t.val / 4 % 16 ≤ 4 * (t.val % 4) + 3)) (h3 : t.val % 4 = 3) (hp : t.val - 1 < cfg0.N) :
    mx m c t.val t.isLt = mx m c (t.val - 1) hp ∧ sm m c t.val t.isLt = sm m c (t.val - 1) hp ∧ ac m c t.val t.isLt = ac m c (t.val - 1) hp := by
  unfold mx sm ac
  rw [outsAt0_C m c t h0 h1 h2 h3]
  exact ⟨rfl, rfl, rfl⟩

/-- A load of what one store over the whole left reads the payload. -/
theorem cov_ld {sg : RefSig} {κ : Kind} {sp : Space} {s : Shape} {e : EltTy} (v : View sg κ sp s e)
    {off : Fin s.rank → ℕ} (inb : ∀ a, off a + s.size a ≤ s.size a) (w : s.Idx → Elt Ideal e) (h : ∀ a, off a = 0) (r : Rect s) :
    v.readCov (Val := Elt Ideal) [(⟨Rect.unit off (no_index s.size) inb, w⟩ : View.Piece (Elt Ideal) s e)] r.toLoadRect = View.ld w r := by
  rw [View.readCov_eq_canon', View.canon_cons_unit_lit' inb w [] h]

/-- The output block after a hidden last block. -/
theorem C_out (c : Dev nD) (t : Fin cfg0.N) (h0 : ¬t.val % 4 = 0) (h1 : ¬4 * (t.val % 4) + 4 ≤ t.val / 4 % 16)
    (h2 : ¬(4 * (t.val % 4) ≤ t.val / 4 % 16 ∧ t.val / 4 % 16 ≤ 4 * (t.val % 4) + 3)) (h3 : t.val % 4 = 3) (y : S128x2048.Idx) :
    ob m c t.val t.isLt y = OUT (ac m c t.val t.isLt) (sm m c t.val t.isLt) (wb m c t) (y 0) (y 1) := by
  obtain ⟨-, e1, e2⟩ := C_step m c t h0 h1 h2 h3 (Nat.lt_of_le_of_lt (Nat.sub_le _ _) t.isLt)
  rw [e1, e2]
  unfold ob
  rw [outsAt0_C m c t h0 h1 h2 h3]
  dsimp only
  frame_out
  simp only [read_unread_whole]
  exact tiles (ac m c (t.val - 1) _) (sm m c (t.val - 1) _) (wb m c t) y

/-- The output block after a masked last block. -/
theorem G_out (c : Dev nD) (t : Fin cfg0.N) (h0 : ¬t.val % 4 = 0) (h1 : ¬4 * (t.val % 4) + 4 ≤ t.val / 4 % 16)
    (h2 : (4 * (t.val % 4) ≤ t.val / 4 % 16 ∧ t.val / 4 % 16 ≤ 4 * (t.val % 4) + 3)) (h3 : t.val % 4 = 3) (y : S128x2048.Idx) :
    ob m c t.val t.isLt y = OUT (ac m c t.val t.isLt) (sm m c t.val t.isLt) (wb m c t) (y 0) (y 1) := by
  unfold ob ac sm
  rw [outsAt0_G m c t h0 h1 h2 h3]
  dsimp only
  frame_out
  simp (disch := decide) only [cov_ld]
  exact tiles _ _ (wb m c t) y

end Cert.Proof.Attn

end
-- ==== Proof.AttnEntry.lean ====
module

public import proofs.«01_k».proof.Defs
public import proofs.«01_k».proof.Proof.Gen.KernelIdeal.Value
public import proofs.«01_k».proof.Proof.AttnStep
public import Idealize.ShloMosaic.Lib.Tactic.ValueTie
public import Idealize.ShloMosaic.Lib.Pipeline.ValueKit
public import Idealize.ShloMosaic.Lib.StableHlo.ReadAt

@[expose] public section

/-! The attention kernel's blocks over the arguments. -/

set_option maxRecDepth 16384

noncomputable section

namespace Cert.Proof.Attn

open Cert.KernelIdeal Cert.KernelIdeal.Gen Idealize.ShloMosaic Idealize.ShloMosaic.TcCoe Idealize.SL.Sem

variable (m : (ℓ : Loc nD τ sig) → Buf (Elt Ideal) ℓ)

/-- The query array at the region's entry, over the arguments. -/
theorem V0 (c : Dev nD) (QL : S8704x16x512.Idx → EReal) (QP : S8704x16x64.Idx → EReal) (hL : m ((c : Thread nD τ).loc main_arg0) = QL)
    (hP : m ((c : Thread nD τ).loc main_arg1) = QP) (n : Fin 68) (h : Fin 16) (q : Fin 128) (d : Fin 640) :
    (V m c main_v4 (ix4 n h q d) : EReal)
      = if hd : d.val < 512 then QL (ix3 (⟨128 * n.val + q.val, by omega⟩ : Fin 8704) h (⟨d.val, hd⟩ : Fin 512))
        else if hd' : d.val < 576 then QP (ix3 (⟨128 * n.val + q.val, by omega⟩ : Fin 8704) h (⟨d.val - 512, by omega⟩ : Fin 64)) else 0 := by
  unfold V
  after_reads_at
  rw [StableHlo.upto_unwritten [main_cst, main_v0] rfl (by decide), StableHlo.upto_unwritten [main_cst, main_v0] rfl (by decide)]
  have hz : ∀ x : S8704x16x64.Idx, @Eq EReal (StableHlo.upto hostOps0 (fun b => m (c, b)) 2 (Proc.devRef .tc main_v0) x) 0 := by
    intro x
    show @Eq EReal (StableHlo.after (hostOps0.take 2) (fun b => m (c, b)) (Proc.devRef .tc main_v0) x) 0
    simp only [hostOps0, List.take_succ_cons, List.take_zero]
    after_reads_at
  by_cases h1 : d.val < 512
  · rw [dif_pos h1, dif_pos h1]
    exact (congrFun hL _).trans (congrArg QL (by funext a; fin_cases a <;> first | rfl | exact Fin.ext (by simp; omega)))
  · rw [dif_neg h1, dif_neg h1]
    by_cases h2 : d.val < 576
    · rw [dif_pos (show d.val - 512 < 64 by omega), dif_pos h2]
      exact (congrFun hP _).trans (congrArg QP (by funext a; fin_cases a <;> first | rfl | exact Fin.ext (by simp; omega)))
    · rw [dif_neg (show ¬ d.val - 512 < 64 by omega), dif_neg h2]
      exact hz _

/-- The key array at the region's entry, over the arguments. -/
theorem V1 (c : Dev nD) (CK : S8704x512.Idx → EReal) (KP : S8704x64.Idx → EReal) (hL : m ((c : Thread nD τ).loc main_arg2) = CK)
    (hP : m ((c : Thread nD τ).loc main_arg3) = KP) (k : Fin 8704) (d : Fin 640) :
    (V m c main_v7 (ix2 k d) : EReal)
      = if hd : d.val < 512 then CK (ix2 k (⟨d.val, hd⟩ : Fin 512))
        else if hd' : d.val < 576 then KP (ix2 k (⟨d.val - 512, by omega⟩ : Fin 64)) else 0 := by
  unfold V
  after_reads_at
  rw [StableHlo.upto_unwritten [main_cst, main_v0, main_v1, main_v2, main_v3, main_v4, main_cst_0, main_v5] rfl (by decide),
    StableHlo.upto_unwritten [main_cst, main_v0, main_v1, main_v2, main_v3, main_v4, main_cst_0, main_v5] rfl (by decide)]
  have hz : ∀ x : S8704x64.Idx, @Eq EReal (StableHlo.upto hostOps0 (fun b => m (c, b)) 8 (Proc.devRef .tc main_v5) x) 0 := by
    intro x
    show @Eq EReal (StableHlo.after (hostOps0.take 8) (fun b => m (c, b)) (Proc.devRef .tc main_v5) x) 0
    simp only [hostOps0, List.take_succ_cons, List.take_zero]
    after_reads_at
  by_cases h1 : d.val < 512
  · rw [dif_pos h1, dif_pos h1]
    exact congrFun hL _
  · rw [dif_neg h1, dif_neg h1]
    by_cases h2 : d.val < 576
    · rw [dif_pos (show d.val - 512 < 64 by omega), dif_pos h2]
      exact congrFun hP _
    · rw [dif_neg (show ¬ d.val - 512 < 64 by omega), dif_neg h2]
      exact hz _

/-- The value matrices at the region's entry, over the arguments. -/
theorem V2 (c : Dev nD) (W : S512x16x128.Idx → EReal) (hW : m ((c : Thread nD τ).loc main_arg4) = W) (h : Fin 16) (l : Fin 512) (d : Fin 128) :
    (V m c main_v9 (ix3 h l d) : EReal) = W (ix3 l h d) := by
  unfold V
  after_reads_at
  exact congrFun hW _

/-- Where each window's block sits. -/
theorem idx (t : Fin cfg0.N) : win0_0.index t (0 : Fin 4) = t.val / 4 ∧ win0_0.index t (1 : Fin 4) = 0 ∧ win0_0.index t (2 : Fin 4) = 0 ∧ win0_0.index t (3 : Fin 4) = 0
    ∧ win0_1.index t (0 : Fin 2) = t.val / 64 * 4 + min (t.val % 4) (t.val / 4 % 16 / 4) ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val / 4 ∧ win0_3.index t (1 : Fin 2) = 0 :=
  (by decide +kernel : ∀ t : Fin grid0.N, win0_0.index t (0 : Fin 4) = t.val / 4 ∧ win0_0.index t (1 : Fin 4) = 0 ∧ win0_0.index t (2 : Fin 4) = 0 ∧ win0_0.index t (3 : Fin 4) = 0
    ∧ win0_1.index t (0 : Fin 2) = t.val / 64 * 4 + min (t.val % 4) (t.val / 4 % 16 / 4) ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val / 4 ∧ win0_3.index t (1 : Fin 2) = 0) t

/-- The number of grid points. -/
theorem N_eq : cfg0.N = 256 := N_0

/-- The query block over the query array. -/
theorem qb_at (c : Dev nD) (t : Fin cfg0.N) (h : Fin 16) (q : Fin 128) (d : Fin 640) :
    qb m c t (ix4 0 h q d) = V m c main_v4 (ix4 (⟨t.val / 4, by have := t.isLt; have := N_eq; omega⟩ : Fin 68) h q d) := by
  show iblk m c 0 t (ix4 0 h q d) = V m c (Pipeline.arrRef spec0 0) _
  blk_ext [iblk, idx t]

/-- The key block over the key array, at a point whose block is not wholly masked. -/
theorem kb_at (c : Dev nD) (t : Fin cfg0.N) (ht : 4 * (t.val % 4) ≤ t.val / 4 % 16) (k : Fin 512) (d : Fin 640) :
    kb m c t (ix2 k d) = V m c main_v7 (ix2 (⟨2048 * (t.val / 64) + 512 * (t.val % 4) + k.val, by have := t.isLt; have := N_eq; omega⟩ : Fin 8704) d) := by
  have hm : min (t.val % 4) (t.val / 4 % 16 / 4) = t.val % 4 := by omega
  show iblk m c 1 t (ix2 k d) = V m c (Pipeline.arrRef spec0 1) _
  blk_ext [iblk, idx t, hm]

/-- The value matrices of a point. -/
theorem wb_at (c : Dev nD) (t : Fin cfg0.N) (h : Fin 16) (l : Fin 512) (d : Fin 128) :
    wb m c t (ix3 h l d) = V m c main_v9 (ix3 h l d) := by
  show iblk m c 2 t (ix3 h l d) = V m c (Pipeline.arrRef spec0 2) _
  blk_ext [iblk, idx t]

end Cert.Proof.Attn

end
-- ==== Proof.AttnMath.lean ====
module

public import proofs.«01_k».proof.Proof.AttnPay
public import Mathlib.Analysis.SpecialFunctions.Pow.Real

@[expose] public section

/-! The running softmax of one row over the reals: what the kernel's state holds after the blocks seen so far. -/

noncomputable section

namespace Cert.Proof.Attn

open Idealize.ShloMosaic

/-- The scale of the scores. -/
def sc : ℝ := (Real.sqrt 192)⁻¹

/-- The named scale is the score scale over the logarithm of two. -/
theorem kap_eq : kap = ((sc * (Real.log 2)⁻¹ : ℝ) : EReal) := rfl

/-- The named start of the running maximum is minus infinity. -/
theorem ninf_eq : ninf = ⊥ := by
  unfold ninf
  simp [Ideal.ofBits, Ideal.ieee]

/-- The word of plus infinity. -/
theorem inf_eq : Ideal.ofBits .f32 0x7F800000#32 = ⊤ := by
  simp [Ideal.ofBits, Ideal.ieee]

/-- The word of two. -/
theorem two_eq : Ideal.ofBits .f32 0x40000000#32 = 2 := by
  have h : Ideal.ofBits .f32 0x40000000#32 = ((2 : ℝ) : EReal) := by
    simp [Ideal.ofBits, Ideal.ieee, -EReal.coe_mul]
    norm_num
  exact h

/-- The number under the reference's root. -/
theorem w192 : Ideal.ofBits .f32 0x43400000#32 = ((192 : ℝ) : EReal) := by
  simp [Ideal.ofBits, Ideal.ieee, -EReal.coe_mul]
  norm_num

/-- A division by the reference's root is a product with the scale. -/
theorem div_root (x : ℝ) : Ideal.div (x : EReal) (Ideal.sqrt (Ideal.ofBits .f32 0x43400000#32)) = (x : EReal) * (sc : EReal) := by
  rw [w192, Ideal.sqrt_coe, if_neg (show ¬ (192 : ℝ) < 0 from by norm_num),
    Ideal.div_coe (show Real.sqrt 192 ≠ 0 from (Real.sqrt_pos.mpr (by norm_num)).ne'), one_div]
  rfl

/-- The score scale is positive. -/
theorem sc_pos : 0 < sc := inv_pos.mpr (Real.sqrt_pos.mpr (by norm_num))

/-- A finite sum of reals, coerced. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A power of two at a difference times the kernel's scale is an exponential at the difference times the scores' scale. -/
theorem exp2_coe (x : ℝ) : FloatOps.exp2 (F := Ideal) (φ := .f32) ((x : EReal) * kap) = ((Real.exp (x * sc) : ℝ) : EReal) := by
  rw [kap_eq, ← EReal.coe_mul]
  show ((Real.rpow 2 (x * (sc * (Real.log 2)⁻¹)) : ℝ) : EReal) = _
  refine congrArg _ ?_
  show (2 : ℝ) ^ (x * (sc * (Real.log 2)⁻¹)) = _
  rw [Real.rpow_def_of_pos (by norm_num)]
  congr 1
  have : Real.log 2 ≠ 0 := (Real.log_pos (by norm_num)).ne'
  field_simp

/-- The same at minus infinity is zero. -/
theorem exp2_bot : FloatOps.exp2 (F := Ideal) (φ := .f32) ((⊥ : EReal) * kap) = 0 := by
  rw [kap_eq, EReal.bot_mul_coe_of_pos (mul_pos sc_pos (inv_pos.mpr (Real.log_pos (by norm_num))))]
  rfl

/-- The weight of key `k` in the row of the query at `p`, relative to the maximum `μ`. -/
def w (p : ℕ) (σ : ℕ → ℝ) (μ : ℝ) (k : ℕ) : ℝ := if k ≤ p then Real.exp ((σ k - μ) * sc) else 0

/-- Moving the maximum rescales a weight. -/
theorem w_shift (p : ℕ) (σ : ℕ → ℝ) (μ μ' : ℝ) (k : ℕ) : Real.exp ((μ - μ') * sc) * w p σ μ k = w p σ μ' k := by
  unfold w
  split_ifs
  · rw [← Real.exp_add]
    congr 1
    ring
  · rw [mul_zero]

/-- The row's state after the first `n` keys: the maximum is some real, and both sums are relative to it. -/
def Inv (p : ℕ) (σ : ℕ → ℝ) (v : ℕ → Fin 512 → ℝ) (n : ℕ) (M L : EReal) (A : Fin 512 → EReal) : Prop :=
  ∃ μ : ℝ, M = (μ : EReal) ∧ L = ((∑ k ∈ Finset.range n, w p σ μ k : ℝ) : EReal)
    ∧ ∀ l, A l = ((∑ k ∈ Finset.range n, w p σ μ k * v k l : ℝ) : EReal)

/-- The scores of the block from key `n`, as the kernel has them. -/
def blk (p : ℕ) (σ : ℕ → ℝ) (n : ℕ) (k : Fin 512) : EReal := if n + k.val ≤ p then ((σ (n + k.val) : ℝ) : EReal) else ⊥

/-- The maximum over a block with an unmasked key is a real. -/
theorem nM_real (p : ℕ) (σ : ℕ → ℝ) (n : ℕ) (hn : n ≤ p) (M : EReal) (hM : M ≠ ⊤) : ∃ μ : ℝ, nM M (blk p σ n) = (μ : EReal) := by
  have hlt : nM M (blk p σ n) < ⊤ := by
    unfold nM
    rw [ninf_eq, max_lt_iff, Finset.fold_max_lt]
    refine ⟨lt_top_iff_ne_top.mpr hM, bot_lt_top, fun k _ => ?_⟩
    unfold blk
    split_ifs
    · exact EReal.coe_lt_top _
    · exact bot_lt_top
  have hge : ((σ n : ℝ) : EReal) ≤ nM M (blk p σ n) := by
    unfold nM
    refine le_max_of_le_right (Finset.le_fold_max _ |>.mpr (Or.inr ⟨0, Finset.mem_univ _, ?_⟩))
    unfold blk
    rw [if_pos (show n + (0 : Fin 512).val ≤ p from hn)]
    exact le_refl _
  refine ⟨(nM M (blk p σ n)).toReal, (EReal.coe_toReal hlt.ne ?_).symm⟩
  exact ((EReal.bot_lt_coe _).trans_le hge).ne'

/-- A key's weight in the block. -/
theorem pw_eq (p : ℕ) (σ : ℕ → ℝ) (n : ℕ) (M : EReal) (μ : ℝ) (h : nM M (blk p σ n) = (μ : EReal)) (k : Fin 512) :
    pw M (blk p σ n) k = ((w p σ μ (n + k.val) : ℝ) : EReal) := by
  unfold pw
  rw [h]
  unfold blk w
  split_ifs
  · rw [← EReal.coe_sub, exp2_coe]
  · rw [EReal.bot_sub, exp2_bot]
    rfl

/-- The block's weights summed. -/
theorem pw_sum (p : ℕ) (σ : ℕ → ℝ) (n : ℕ) (M : EReal) (μ : ℝ) (h : nM M (blk p σ n) = (μ : EReal)) :
    ∑ k, pw M (blk p σ n) k = ((∑ k ∈ Finset.range 512, w p σ μ (n + k) : ℝ) : EReal) := by
  rw [Finset.sum_range, coe_sum]
  exact Finset.sum_congr rfl fun k _ => pw_eq p σ n M μ h k

/-- The block's weighted values summed. -/
theorem pwv_sum (p : ℕ) (σ : ℕ → ℝ) (n : ℕ) (M : EReal) (μ : ℝ) (h : nM M (blk p σ n) = (μ : EReal)) (u : Fin 512 → EReal) (v : ℕ → ℝ)
    (hu : ∀ k : Fin 512, u k = ((v (n + k.val) : ℝ) : EReal)) :
    ∑ k, pw M (blk p σ n) k * u k = ((∑ k ∈ Finset.range 512, w p σ μ (n + k) * v (n + k) : ℝ) : EReal) := by
  rw [Finset.sum_range, coe_sum]
  exact Finset.sum_congr rfl fun k _ => by rw [pw_eq p σ n M μ h k, hu k, EReal.coe_mul]

/-- One more block, over a state. -/
theorem inv_step (p : ℕ) (σ : ℕ → ℝ) (v : ℕ → Fin 512 → ℝ) (n : ℕ) (hn : n ≤ p) (M L : EReal) (A : Fin 512 → EReal) (s : Fin 512 → EReal)
    (hs : s = blk p σ n) (u : Fin 512 → Fin 512 → EReal) (hu : ∀ k l, u k l = ((v (n + k.val) l : ℝ) : EReal)) (h : Inv p σ v n M L A) :
    Inv p σ v (n + 512) (nM M s) (al M s * L + ∑ k, pw M s k) (fun l => al M s * A l + ∑ k, pw M s k * u k l) := by
  subst hs
  obtain ⟨μ, rfl, rfl, hA⟩ := h
  obtain ⟨μ', h'⟩ := nM_real p σ n hn (μ : EReal) (EReal.coe_ne_top _)
  have hal : al (μ : EReal) (blk p σ n) = ((Real.exp ((μ - μ') * sc) : ℝ) : EReal) := by
    unfold al
    rw [h', ← EReal.coe_sub, exp2_coe]
  refine ⟨μ', h', ?_, fun l => ?_⟩
  · rw [hal, pw_sum p σ n _ μ' h', ← EReal.coe_mul, ← EReal.coe_add, Finset.sum_range_add, Finset.mul_sum]
    simp only [w_shift]
  · show al (μ : EReal) (blk p σ n) * A l + _ = _
    rw [hal, hA l, pwv_sum p σ n _ μ' h' (fun k => u k l) (fun k => v k l) (fun k => hu k l), ← EReal.coe_mul, ← EReal.coe_add,
      Finset.sum_range_add, Finset.mul_sum]
    simp only [← mul_assoc, w_shift]

/-- The first block, over the reset state. -/
theorem inv_first (p : ℕ) (σ : ℕ → ℝ) (v : ℕ → Fin 512 → ℝ) (s : Fin 512 → EReal) (hs : s = blk p σ 0) (u : Fin 512 → Fin 512 → EReal)
    (hu : ∀ k l, u k l = ((v k.val l : ℝ) : EReal)) :
    Inv p σ v 512 (nM ninf s) (al ninf s * 0 + ∑ k, pw ninf s k) (fun l => al ninf s * 0 + ∑ k, pw ninf s k * u k l) := by
  subst hs
  obtain ⟨μ', h'⟩ := nM_real p σ 0 (Nat.zero_le _) ninf (by rw [ninf_eq]; exact bot_ne_top)
  refine ⟨μ', h', ?_, fun l => ?_⟩
  · rw [mul_zero, zero_add, pw_sum p σ 0 _ μ' h']
    simp only [zero_add]
  · show al ninf (blk p σ 0) * 0 + _ = _
    rw [mul_zero, zero_add, pwv_sum p σ 0 _ μ' h' (fun k => u k l) (fun k => v k l) (fun k => by rw [hu k l, zero_add])]
    simp only [zero_add]

/-- A key's unnormalised weight. -/
def e (p : ℕ) (σ : ℕ → ℝ) (k : ℕ) : ℝ := if k ≤ p then Real.exp (σ k * sc) else 0

/-- The row's attention: the values averaged by the softmax of the scores up to the query. -/
def att (p : ℕ) (σ : ℕ → ℝ) (v : ℕ → Fin 512 → ℝ) (l : Fin 512) : ℝ :=
  (∑ k ∈ Finset.range 2048, e p σ k * v k l) / ∑ k ∈ Finset.range 2048, e p σ k

/-- A weight is the plain exponential times a factor of its row. -/
theorem w_e (p : ℕ) (σ : ℕ → ℝ) (μ : ℝ) (k : ℕ) : w p σ μ k = Real.exp (-(μ * sc)) * e p σ k := by
  unfold w e
  split_ifs
  · rw [← Real.exp_add]
    congr 1
    ring
  · rw [mul_zero]

/-- The weights of a row are positive in sum. -/
theorem e_pos (p : ℕ) (σ : ℕ → ℝ) : 0 < ∑ k ∈ Finset.range 2048, e p σ k := by
  refine Finset.sum_pos' (fun k _ => ?_) ⟨0, Finset.mem_range.mpr (by norm_num), ?_⟩
  · unfold e
    split_ifs
    · exact (Real.exp_pos _).le
    · exact le_refl _
  · unfold e
    rw [if_pos (Nat.zero_le _)]
    exact Real.exp_pos _

/-- Keys past the query add nothing. -/
theorem sum_past (p n : ℕ) (hp : p < n) (hn : n ≤ 2048) (f : ℕ → ℝ) (hf : ∀ k, p < k → f k = 0) :
    ∑ k ∈ Finset.range n, f k = ∑ k ∈ Finset.range 2048, f k := by
  refine Finset.sum_subset (fun k hk => Finset.mem_range.mpr (lt_of_lt_of_le (Finset.mem_range.mp hk) hn)) fun k _ hk => hf k ?_
  by_contra hc
  exact hk (Finset.mem_range.mpr (by omega))

/-- A key past the row has weight zero. -/
theorem e_past (p : ℕ) (σ : ℕ → ℝ) (k : ℕ) (h : p < k) : e p σ k = 0 := by
  unfold e
  rw [if_neg (by omega)]

/-- A quotient of reals. -/
theorem div_real (a b : ℝ) (hb : b ≠ 0) : Ideal.div (a : EReal) (b : EReal) = ((a / b : ℝ) : EReal) := by
  rw [Ideal.div_coe hb, ← EReal.coe_mul]
  refine congrArg _ ?_
  rw [mul_one_div]

/-- The state's quotient, once every key up to the query is in, is the row's attention. -/
theorem inv_div (p : ℕ) (σ : ℕ → ℝ) (v : ℕ → Fin 512 → ℝ) (n : ℕ) (hp : p < n) (hn : n ≤ 2048) (M L : EReal) (A : Fin 512 → EReal)
    (h : Inv p σ v n M L A) (l : Fin 512) : Ideal.div (A l) L = ((att p σ v l : ℝ) : EReal) := by
  obtain ⟨μ, -, rfl, hA⟩ := h
  have hx : Real.exp (-(μ * sc)) ≠ 0 := (Real.exp_pos _).ne'
  rw [hA l]
  simp only [w_e, mul_assoc]
  rw [← Finset.mul_sum, ← Finset.mul_sum, sum_past p n hp hn _ (fun k hk => e_past p σ k hk),
    sum_past p n hp hn _ (fun k hk => by rw [e_past p σ k hk, zero_mul]), div_real _ _ (mul_ne_zero hx (e_pos p σ).ne'),
    mul_div_mul_left _ _ hx]
  rfl

/-- The reference's scores of a row. -/
def rs (p : ℕ) (σ : ℕ → ℝ) (k : Fin 2048) : EReal := if k.val ≤ p then ((σ k.val : ℝ) : EReal) * ((sc : ℝ) : EReal) else ⊥

/-- The reference's row: the softmax of the scores, then the average of the values. -/
theorem ref_row (p : ℕ) (σ : ℕ → ℝ) (v : ℕ → Fin 512 → ℝ) (s : Fin 2048 → EReal) (hs : s = rs p σ) (l : Fin 512) (u : Fin 2048 → EReal)
    (hu : ∀ k, u k = ((v k.val l : ℝ) : EReal)) :
    ∑ k, u k * Ideal.div (Ideal.exp (s k - max ⊥ (Finset.fold max ⊥ s Finset.univ)))
        (∑ x, Ideal.exp (s x - max ⊥ (Finset.fold max ⊥ s Finset.univ))) = ((att p σ v l : ℝ) : EReal) := by
  subst hs
  obtain ⟨μ, hμ⟩ : ∃ μ : ℝ, max ⊥ (Finset.fold max ⊥ (rs p σ) Finset.univ) = (μ : EReal) := by
    have hlt : max ⊥ (Finset.fold max ⊥ (rs p σ) Finset.univ) < ⊤ := by
      rw [max_lt_iff, Finset.fold_max_lt]
      refine ⟨bot_lt_top, bot_lt_top, fun k _ => ?_⟩
      unfold rs
      split_ifs
      · rw [← EReal.coe_mul]
        exact EReal.coe_lt_top _
      · exact bot_lt_top
    have hge : ((σ 0 * sc : ℝ) : EReal) ≤ max ⊥ (Finset.fold max ⊥ (rs p σ) Finset.univ) := by
      refine le_max_of_le_right (Finset.le_fold_max _ |>.mpr (Or.inr ⟨0, Finset.mem_univ _, ?_⟩))
      unfold rs
      rw [if_pos (show (0 : Fin 2048).val ≤ p from Nat.zero_le _), EReal.coe_mul]
      exact le_refl _
    exact ⟨_, (EReal.coe_toReal hlt.ne ((EReal.bot_lt_coe _).trans_le hge).ne').symm⟩
  have hexp : ∀ k : Fin 2048, Ideal.exp (rs p σ k - max ⊥ (Finset.fold max ⊥ (rs p σ) Finset.univ))
      = ((Real.exp (-μ) * e p σ k.val : ℝ) : EReal) := fun k => by
    rw [hμ]
    unfold rs e
    split_ifs
    · rw [← EReal.coe_mul, ← EReal.coe_sub, Ideal.exp_coe, ← Real.exp_add]
      congr 2
      ring
    · rw [EReal.bot_sub, Ideal.exp_bot, mul_zero]
      rfl
  have hx : Real.exp (-μ) ≠ 0 := (Real.exp_pos _).ne'
  simp only [hexp, hu]
  rw [← coe_sum, ← Finset.mul_sum, ← Finset.sum_range (n := 2048) (fun k => e p σ k)]
  simp only [div_real _ _ (mul_ne_zero hx (e_pos p σ).ne'), ← EReal.coe_mul]
  rw [← coe_sum]
  refine congrArg (fun z : ℝ => (z : EReal)) ?_
  unfold att
  rw [Finset.sum_div, Finset.sum_range (n := 2048) (fun k => e p σ k * v k l / ∑ k ∈ Finset.range 2048, e p σ k)]
  refine Finset.sum_congr rfl fun k _ => ?_
  rw [mul_div_mul_left _ _ hx]
  ring

/-- The score, before the scale, of key `k` in the row of the query at `p` of head `h` in sequence `b`: over the reals, from the two parts
    of the queries and the keys. -/
def sg (ql : ℕ → Fin 16 → Fin 512 → ℝ) (qp : ℕ → Fin 16 → Fin 64 → ℝ) (ck : ℕ → Fin 512 → ℝ) (kp : ℕ → Fin 64 → ℝ) (b p : ℕ) (h : Fin 16) (k : ℕ) : ℝ :=
  ∑ l : Fin 512, ck (b * 2048 + k) l * ql (b * 2048 + p) h l + ∑ d : Fin 64, kp (b * 2048 + k) d * qp (b * 2048 + p) h d

end Cert.Proof.Attn

end
-- ==== Proof.AttnRow.lean ====
module

public import proofs.«01_k».proof.Proof.AttnEntry
public import proofs.«01_k».proof.Proof.AttnMath

@[expose] public section

/-! What the attention kernel's state holds of a row, block after block, over the reals. -/

set_option maxRecDepth 16384

noncomputable section

namespace Cert.Proof.Attn

open Cert.KernelIdeal Cert.KernelIdeal.Gen Idealize.ShloMosaic Idealize.ShloMosaic.TcCoe Idealize.SL.Sem

/-- A sum over the 640 lanes of the padded queries and keys is the sums over its three parts. -/
theorem sum640 (f : Fin 640 → EReal) : ∑ d, f d = ∑ l : Fin 512, f ⟨l.val, by omega⟩ + (∑ d : Fin 64, f ⟨512 + d.val, by omega⟩ + ∑ d : Fin 64, f ⟨576 + d.val, by omega⟩) := by
  refine (Fin.sum_univ_add (a := 512) (b := 128) f).trans ?_
  refine congrArg₂ (fun a b : EReal => a + b) rfl ?_
  refine (Fin.sum_univ_add (a := 64) (b := 64) (fun d : Fin 128 => f (Fin.natAdd 512 d))).trans ?_
  refine congrArg₂ (fun a b : EReal => a + b) rfl (Finset.sum_congr rfl fun d _ => congrArg f (Fin.ext ?_))
  simp [Fin.natAdd]
  omega

/-- What the arguments hold, over the reals. -/
structure Args (m : (ℓ : Loc nD τ sig) → Buf (Elt Ideal) ℓ) (c : Dev nD) where
  Q : ℕ → Fin 16 → Fin 512 → ℝ
  Qp : ℕ → Fin 16 → Fin 64 → ℝ
  C : ℕ → Fin 512 → ℝ
  Kp : ℕ → Fin 64 → ℝ
  hQ : ∀ (r : Fin 8704) (h : Fin 16) (l : Fin 512), @Eq EReal (m ((c : Thread nD τ).loc main_arg0) (ix3 r h l)) (Q r.val h l : EReal)
  hQp : ∀ (r : Fin 8704) (h : Fin 16) (l : Fin 64), @Eq EReal (m ((c : Thread nD τ).loc main_arg1) (ix3 r h l)) (Qp r.val h l : EReal)
  hC : ∀ (r : Fin 8704) (l : Fin 512), @Eq EReal (m ((c : Thread nD τ).loc main_arg2) (ix2 r l)) (C r.val l : EReal)
  hK : ∀ (r : Fin 8704) (l : Fin 64), @Eq EReal (m ((c : Thread nD τ).loc main_arg3) (ix2 r l)) (Kp r.val l : EReal)

variable (m : (ℓ : Loc nD τ sig) → Buf (Elt Ideal) ℓ)

/-- A product of a padded query row and a padded key row. -/
theorem dot_at (c : Dev nD) (a : Args m c) (n : Fin 68) (h : Fin 16) (q : Fin 128) (k : Fin 8704) (A B : Fin 640 → EReal)
    (hA : ∀ d, A d = V m c main_v4 (ix4 n h q d)) (hB : ∀ d, B d = V m c main_v7 (ix2 k d)) :
    (∑ d : Fin 640, A d * B d)
      = ((∑ l : Fin 512, a.C k.val l * a.Q (128 * n.val + q.val) h l + ∑ d : Fin 64, a.Kp k.val d * a.Qp (128 * n.val + q.val) h d : ℝ) : EReal) := by
  simp only [fun d => (hA d).trans (V0 m c _ _ rfl rfl n h q d), fun d => (hB d).trans (V1 m c _ _ rfl rfl k d)]
  rw [sum640, EReal.coe_add, coe_sum, coe_sum]
  refine congrArg₂ (fun a b : EReal => a + b) (Finset.sum_congr rfl fun l _ => ?_) ?_
  · rw [dif_pos (show l.val < 512 from l.isLt), dif_pos (show l.val < 512 from l.isLt), mul_comm, EReal.coe_mul]
    exact congrArg₂ (fun a b : EReal => a * b) (a.hC _ _) (a.hQ _ _ _)
  · have hz : (∑ d : Fin 64, (0 : EReal) * 0) = 0 := by simp
    refine Eq.trans (congrArg₂ (fun a b : EReal => a + b) (Finset.sum_congr rfl fun d _ => ?_)
      ((Finset.sum_congr rfl fun d _ => ?_).trans hz)) (add_zero _)
    · rw [dif_neg (show ¬ 512 + d.val < 512 by omega), dif_neg (show ¬ 512 + d.val < 512 by omega), dif_pos (show 512 + d.val < 576 by omega),
        dif_pos (show 512 + d.val < 576 by omega), mul_comm, EReal.coe_mul]
      have e : (⟨512 + d.val - 512, by omega⟩ : Fin 64) = d := Fin.ext (by simp)
      exact congrArg₂ (fun a b : EReal => a * b) ((a.hK _ _).trans (by rw [e])) ((a.hQp _ _ _).trans (by rw [e]))
    · rw [dif_neg (show ¬ 576 + d.val < 512 by omega), dif_neg (show ¬ 576 + d.val < 512 by omega), dif_neg (show ¬ 576 + d.val < 576 by omega),
        dif_neg (show ¬ 576 + d.val < 576 by omega)]

/-- A row's position in its sequence, at point `t`. -/
def pos (t : ℕ) (r : Fin 2048) : ℕ := 128 * (t / 4 % 16) + r.val % 128

/-- A row's scores. -/
def sig_ (c : Dev nD) (a : Args m c) (t : ℕ) (r : Fin 2048) : ℕ → ℝ := sg a.Q a.Qp a.C a.Kp (t / 64) (pos t r) ⟨r.val / 128, by omega⟩

/-- A row's values. -/
def val_ (c : Dev nD) (a : Args m c) (t : ℕ) (k : ℕ) : Fin 512 → ℝ := a.C (t / 64 * 2048 + k)

/-- The scores of an active block. -/
theorem ss_eq (c : Dev nD) (a : Args m c) (t : Fin cfg0.N) (ht : 4 * (t.val % 4) ≤ t.val / 4 % 16) (r : Fin 2048) :
    ss m c t r = blk (pos t.val r) (sig_ m c a t.val r) (512 * (t.val % 4)) := by
  funext k
  unfold ss Sm blk pos
  split_ifs with h
  · unfold S sig_ sg pos
    refine (dot_at m c a _ _ _ _ _ _ (fun d => qb_at m c t _ _ d) (fun d => kb_at m c t ht k d)).trans ?_
    have e1 : 2048 * (t.val / 64) + 512 * (t.val % 4) + k.val = t.val / 64 * 2048 + (512 * (t.val % 4) + k.val) := by omega
    have e2 : 128 * (t.val / 4) + r.val % 128 = t.val / 64 * 2048 + (128 * (t.val / 4 % 16) + r.val % 128) := by omega
    simp only [e1, e2]
  · exact ninf_eq

/-- The values of an active block. -/
theorem kb_val (c : Dev nD) (a : Args m c) (t : Fin cfg0.N) (ht : 4 * (t.val % 4) ≤ t.val / 4 % 16) (k : Fin 512) (l : Fin 512) :
    @Eq EReal (kb m c t (ix2 k (⟨l.val, by omega⟩ : Fin 640))) ((val_ m c a t.val (512 * (t.val % 4) + k.val) l : ℝ) : EReal) := by
  rw [kb_at m c t ht, V1 m c _ _ rfl rfl, dif_pos (show l.val < 512 from l.isLt)]
  refine (a.hC _ _).trans ?_
  unfold val_
  have e1 : 2048 * (t.val / 64) + 512 * (t.val % 4) + k.val = t.val / 64 * 2048 + (512 * (t.val % 4) + k.val) := by omega
  simp only [e1]

end Cert.Proof.Attn

end
-- ==== Proof.AttnRef.lean ====
module

public import proofs.«01_k».proof.Defs
public import proofs.«01_k».proof.Proof.Gen.ReferenceIdeal.Run
public import Idealize.ShloMosaic.Lib.Tactic.ValueTie
public import Idealize.ShloMosaic.Lib.Pipeline.ValueKit
public import Idealize.ShloMosaic.Lib.ReduceAll
public import Idealize.ShloMosaic.Lib.WordCmp
public import proofs.«01_k».proof.Proof.AttnMath

@[expose] public section

/-! The attention reference at an index. -/

set_option maxRecDepth 16384

noncomputable section

namespace Cert.Proof.Attn

open Cert.ReferenceIdeal Cert.ReferenceIdeal.Gen Idealize.ShloMosaic Idealize.ShloMosaic.TcCoe Idealize.SL.Sem

/-- The masked and scaled scores of the reference. -/
def rS (q : FVec Ideal S8704x16x512 .f32) (qp : FVec Ideal S8704x16x64 .f32) (ck : FVec Ideal S8704x512 .f32) (kp : FVec Ideal S8704x64 .f32) :
    FVec Ideal S4x16x2048x2048 .f32 :=
  select (broadcastInDim S4x16x2048x2048 ![2, 3] bcast_S2048x2048_S4x16x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (Host.divf (addf (transpose S4x16x2048x2048 [0, 3, 2, 1] (Host.dotGeneral dot_S4x2048x512_S4x2048x16x512_S4x2048x2048x16_2_3_1_12_0_0 none (shapeCast _ (extractStridedSlice S8192x512 ![0, 0] ck slices_S8704x512_S8192x512_0_0) shapeCasts_S8192x512_S4x2048x512) (shapeCast _ (extractStridedSlice S8192x16x512 ![0, 0, 0] q slices_S8704x16x512_S8192x16x512_0_0_0) shapeCasts_S8192x16x512_S4x2048x16x512)) transposes_S4x2048x2048x16_S4x16x2048x2048_0_3_2_1) (transpose S4x16x2048x2048 [0, 3, 2, 1] (Host.dotGeneral dot_S4x2048x64_S4x2048x16x64_S4x2048x2048x16_2_3_1_12_0_0 none (shapeCast _ (extractStridedSlice S8192x64 ![0, 0] kp slices_S8704x64_S8192x64_0_0) shapeCasts_S8192x64_S4x2048x64) (shapeCast _ (extractStridedSlice S8192x16x64 ![0, 0, 0] qp slices_S8704x16x64_S8192x16x64_0_0_0) shapeCasts_S8192x16x64_S4x2048x16x64)) transposes_S4x2048x2048x16_S4x16x2048x2048_0_3_2_1)) (broadcastInDim S4x16x2048x2048 ![] bcast_S_S4x16x2048x2048 (Host.sqrt (constant S_ .f32 0x43400000#32)))) (broadcastInDim S4x16x2048x2048 ![] bcast_S_S4x16x2048x2048 (id (constant S_ .f32 0xFF800000#32)))

/-- The row maxima of the reference. -/
def rM (s : FVec Ideal S4x16x2048x2048 .f32) : FVec Ideal S4x16x2048 .f32 :=
  maximumf (broadcastInDim S4x16x2048 ![] bcast_S_S4x16x2048 (constant S_ .f32 0xFF800000#32)) (Host.reduce FloatOps.maximumf s (constant S_ .f32 0xFF800000#32) reducesTo_S4x16x2048x2048_S4x16x2048_d3 h_S_)

/-- The exponentials of the reference. -/
def rE (s : FVec Ideal S4x16x2048x2048 .f32) : FVec Ideal S4x16x2048x2048 .f32 :=
  Host.exp (subf s (broadcastInDim S4x16x2048x2048 ![0, 1, 2, 3] bcast_S4x16x2048x1_S4x16x2048x2048_0_1_2_3 (broadcastInDim S4x16x2048x1 ![0, 1, 2] bcast_S4x16x2048_S4x16x2048x1_0_1_2 (rM s))))

/-- The attention weights of the reference. -/
def rP (s : FVec Ideal S4x16x2048x2048 .f32) : FVec Ideal S4x16x2048x2048 .f32 :=
  Host.divf (rE s) (broadcastInDim S4x16x2048x2048 ![0, 1, 2, 3] bcast_S4x16x2048x1_S4x16x2048x2048_0_1_2_3 (broadcastInDim S4x16x2048x1 ![0, 1, 2] bcast_S4x16x2048_S4x16x2048x1_0_1_2 (Host.reduceAdd (rE s) (constant S_ .f32 0x00000000#32) reducesTo_S4x16x2048x2048_S4x16x2048_d3 h_S_)))

/-- The output of the reference, from the weights. -/
def rO (p : FVec Ideal S4x16x2048x2048 .f32) (ck : FVec Ideal S8704x512 .f32) (w : FVec Ideal S512x16x128 .f32) : FVec Ideal S8192x2048 .bf16 :=
  truncf .bf16 (shapeCast _ (transpose S4x2048x16x128 [2, 3, 0, 1] (Host.dotGeneral dot_S512x16x128_S4x2048x16x512_S16x128x4x2048_0_3_2_01_1_2 none w (transpose S4x2048x16x512 [0, 3, 2, 1] (Host.dotGeneral dot_S4x2048x512_S4x16x2048x2048_S4x512x16x2048_1_3_2_12_0_0 none (shapeCast _ (extractStridedSlice S8192x512 ![0, 0] ck slices_S8704x512_S8192x512_0_0) shapeCasts_S8192x512_S4x2048x512) p) transposes_S4x512x16x2048_S4x2048x16x512_0_3_2_1)) transposes_S16x128x4x2048_S4x2048x16x128_2_3_0_1) shapeCasts_S4x2048x16x128_S8192x2048) bitsLt_bf16_f32

/-- The masked and scaled score at an index. -/
theorem rS_at (q : FVec Ideal S8704x16x512 .f32) (qp : FVec Ideal S8704x16x64 .f32) (ck : FVec Ideal S8704x512 .f32) (kp : FVec Ideal S8704x64 .f32)
    (Q : ℕ → Fin 16 → Fin 512 → ℝ) (Qp : ℕ → Fin 16 → Fin 64 → ℝ) (C : ℕ → Fin 512 → ℝ) (Kp : ℕ → Fin 64 → ℝ)
    (hQ : ∀ r h l, @Eq EReal (q (ix3 r h l)) (Q r.val h l : EReal)) (hQp : ∀ r h l, @Eq EReal (qp (ix3 r h l)) (Qp r.val h l : EReal))
    (hC : ∀ r l, @Eq EReal (ck (ix2 r l)) (C r.val l : EReal)) (hK : ∀ r l, @Eq EReal (kp (ix2 r l)) (Kp r.val l : EReal))
    (b : Fin 4) (h : Fin 16) (p k : Fin 2048) : @Eq EReal (rS q qp ck kp (ix4 b h p k)) (rs p.val (sg Q Qp C Kp b.val p.val h) k) := by
  unfold rS
  pointwise
  rw [WordCmp.cmpi_sle_ofNat (by omega) (by omega)]
  simp only [hQ, hQp, hC, hK, ← EReal.coe_mul, ← coe_sum, ← EReal.coe_add]
  rw [div_root]
  unfold rs sg
  by_cases hk : k.val ≤ p.val
  · rw [if_pos hk, decide_eq_true hk]
    rfl
  · rw [if_neg hk, decide_eq_false hk]
    exact ninf_eq

/-- A maximum over the last of four axes, at an index. -/
theorem host_max {n0 n1 n2 n3 : ℕ} {u : Shape} (h : (⟨4, ![n0, n1, n2, n3]⟩ : Shape).ReducesTo [3] ⟨3, ![n0, n1, n2]⟩)
    (x : FVec Ideal ⟨4, ![n0, n1, n2, n3]⟩ .f32) (c : u.Idx → Ideal .f32) (hu : 0 < u.numel) (i : Fin n0) (j : Fin n1) (k : Fin n2) :
    @Eq (Ideal .f32) (Host.reduce (FloatOps.maximumf (F := Ideal) (φ := .f32)) x c h hu (ix3 i j k)) (Finset.fold max (c (Shape.Idx.first hu) : EReal) (fun q => (x (ix4 i j k q) : EReal)) Finset.univ) := by
  simp only [pointwise]

/-- The larger of two arrays, at an index. -/
theorem max_at {t : Shape} (x y : FVec Ideal t .f32) (i : t.Idx) (a b : EReal) (hx : @Eq EReal (x i) a) (hy : @Eq EReal (y i) b) :
    @Eq EReal (maximumf x y i) (max a b) := by
  rw [← hx, ← hy]
  rfl

/-- The row maximum at an index. -/
theorem rM_at (s : FVec Ideal S4x16x2048x2048 .f32) (b : Fin 4) (h : Fin 16) (p : Fin 2048) (f : Fin 2048 → EReal)
    (hf : ∀ k, @Eq EReal (s (ix4 b h p k)) (f k)) : @Eq EReal (rM s (ix3 b h p)) (max ⊥ (Finset.fold max ⊥ f Finset.univ)) := by
  unfold rM
  refine max_at _ _ _ _ _ ninf_eq ((host_max _ s _ _ b h p).trans ?_)
  rw [show (fun q => (s (ix4 b h p q) : EReal)) = f from funext hf]
  exact congrArg (fun z : EReal => Finset.fold max z f Finset.univ) ninf_eq

/-- The exponential at an index. -/
theorem rE_at (s : FVec Ideal S4x16x2048x2048 .f32) (b : Fin 4) (h : Fin 16) (p k : Fin 2048) :
    @Eq EReal (rE s (ix4 b h p k)) (Ideal.exp ((s (ix4 b h p k) : EReal) - (rM s (ix3 b h p) : EReal))) := by
  unfold rE
  pointwise

/-- The attention weight at an index. -/
theorem rP_at (s : FVec Ideal S4x16x2048x2048 .f32) (b : Fin 4) (h : Fin 16) (p k : Fin 2048) :
    @Eq EReal (rP s (ix4 b h p k)) (Ideal.div (rE s (ix4 b h p k)) (∑ x : Fin 2048, (rE s (ix4 b h p x) : EReal))) := by
  unfold rP
  pointwise

/-- The output at an index, from the weights. -/
theorem rO_at (p : FVec Ideal S4x16x2048x2048 .f32) (ck : FVec Ideal S8704x512 .f32) (w : FVec Ideal S512x16x128 .f32) (R : Fin 8192) (j : Fin 2048) :
    @Eq EReal (rO p ck w (ix2 R j)) (∑ x : Fin 512, (w (ix3 x (⟨j.val / 128, by omega⟩ : Fin 16) (⟨j.val % 128, by omega⟩ : Fin 128)) : EReal)
      * ∑ k : Fin 2048, (ck (ix2 (⟨R.val / 2048 * 2048 + k.val, by omega⟩ : Fin 8704) x) : EReal)
        * (p (ix4 (⟨R.val / 2048, by omega⟩ : Fin 4) (⟨j.val / 128, by omega⟩ : Fin 16) (⟨R.val % 2048, by omega⟩ : Fin 2048) k) : EReal)) := by
  unfold rO
  pointwise

/-- The reference at an index, over the reals that its arguments hold. -/
theorem ref_at (q : FVec Ideal S8704x16x512 .f32) (qp : FVec Ideal S8704x16x64 .f32) (ck : FVec Ideal S8704x512 .f32) (kp : FVec Ideal S8704x64 .f32)
    (w : FVec Ideal S512x16x128 .f32)
    (Q : ℕ → Fin 16 → Fin 512 → ℝ) (Qp : ℕ → Fin 16 → Fin 64 → ℝ) (C : ℕ → Fin 512 → ℝ) (Kp : ℕ → Fin 64 → ℝ)
    (hQ : ∀ r h l, @Eq EReal (q (ix3 r h l)) (Q r.val h l : EReal)) (hQp : ∀ r h l, @Eq EReal (qp (ix3 r h l)) (Qp r.val h l : EReal))
    (hC : ∀ r l, @Eq EReal (ck (ix2 r l)) (C r.val l : EReal)) (hK : ∀ r l, @Eq EReal (kp (ix2 r l)) (Kp r.val l : EReal))
    (R : Fin 8192) (j : Fin 2048) :
    @Eq EReal (rO (rP (rS q qp ck kp)) ck w (ix2 R j)) (∑ x : Fin 512, (w (ix3 x (⟨j.val / 128, by omega⟩ : Fin 16) (⟨j.val % 128, by omega⟩ : Fin 128)) : EReal)
      * (att (R.val % 2048) (sg Q Qp C Kp (R.val / 2048) (R.val % 2048) (⟨j.val / 128, by omega⟩ : Fin 16)) (fun k => C (R.val / 2048 * 2048 + k)) x : EReal)) := by
  rw [rO_at]
  refine Finset.sum_congr rfl fun x _ => congrArg₂ (fun a b : EReal => a * b) rfl ?_
  have hs := fun k => rS_at q qp ck kp Q Qp C Kp hQ hQp hC hK (⟨R.val / 2048, by omega⟩ : Fin 4) (⟨j.val / 128, by omega⟩ : Fin 16) (⟨R.val % 2048, by omega⟩ : Fin 2048) k
  have hM := rM_at (rS q qp ck kp) (⟨R.val / 2048, by omega⟩ : Fin 4) (⟨j.val / 128, by omega⟩ : Fin 16) (⟨R.val % 2048, by omega⟩ : Fin 2048) _ hs
  simp only [rP_at, rE_at, hM]
  simp only [hs]
  exact ref_row _ _ (fun k => C (R.val / 2048 * 2048 + k)) _ rfl x _ (fun k => hC _ _)

/-- The reference result, staged. -/
theorem res_eq (m : (ℓ : Loc nD τ sig) → Buf (Elt Ideal) ℓ) (c : Dev nD) :
    Value.res_main_v39 m c = rO (rP (rS (m ((c.tc : Thread nD τ).loc main_arg0)) (m ((c.tc : Thread nD τ).loc main_arg1))
      (m ((c.tc : Thread nD τ).loc main_arg2)) (m ((c.tc : Thread nD τ).loc main_arg3)))) (m ((c.tc : Thread nD τ).loc main_arg2))
      (m ((c.tc : Thread nD τ).loc main_arg4)) := by
  unfold Value.res_main_v39 rO rP rE rM rS
  rfl

/-- A number whose magnitude compares below infinity is real. -/
theorem fin_real (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [inf_eq] at h
  change BitVec.ofBool (decide (max x (-x) < ⊤)) = 1#1 at h
  induction x with
  | bot => simp at h
  | top => simp at h
  | coe r => exact ⟨r, rfl⟩

/-- Under the precondition the queries' and the keys' two parts are real. -/
theorem pre_real (q : FVec Ideal Cert.Pre_attn_args_finite.S8704x16x512 .f32) (qp : FVec Ideal Cert.Pre_attn_args_finite.S8704x16x64 .f32)
    (ck : FVec Ideal Cert.Pre_attn_args_finite.S8704x512 .f32) (kp : FVec Ideal Cert.Pre_attn_args_finite.S8704x64 .f32)
    (w : FVec Ideal Cert.Pre_attn_args_finite.S512x16x128 .f32)
    [Cert.Pre_attn_args_finite.Facts] (h : Cert.Pre_attn_args_finite.fn (F := Ideal) q qp ck kp w = fun _ => 1#1) :
    (∀ i, ∃ r : ℝ, @Eq EReal (q i) r) ∧ (∀ i, ∃ r : ℝ, @Eq EReal (qp i) r) ∧ (∀ i, ∃ r : ℝ, @Eq EReal (ck i) r) ∧ (∀ i, ∃ r : ℝ, @Eq EReal (kp i) r) := by
  have h := congrFun h ix0
  dsimp only [Cert.Pre_attn_args_finite.fn, Cert.Pre_attn_args_finite.fn_part1] at h
  obtain ⟨h123, h4⟩ := IntOp.andi_eq_one.1 h
  obtain ⟨h12, h3⟩ := IntOp.andi_eq_one.1 h123
  obtain ⟨h1, h2⟩ := IntOp.andi_eq_one.1 h12
  haveI : Subsingleton Cert.Pre_attn_args_finite.S_.Idx := ⟨fun a b => funext fun i => i.elim0⟩
  exact ⟨fun i => fin_real _ (Host.reduce_andi_all _ _ _ _ _ h1 i), fun i => fin_real _ (Host.reduce_andi_all _ _ _ _ _ h2 i),
    fun i => fin_real _ (Host.reduce_andi_all _ _ _ _ _ h3 i), fun i => fin_real _ (Host.reduce_andi_all _ _ _ _ _ h4 i)⟩

end Cert.Proof.Attn

end
-- ==== Proof.Attention.lean ====
module

public import proofs.«01_k».proof.Proof.AttnRow
public import proofs.«01_k».proof.Proof.AttnRef
public import proofs.«01_k».proof.Proof.Gen.Pre_attn_args_finite
public import Idealize.ShloMosaic.Lib.Claim

@[expose] public section

/-! The prompt attention: the kernel's running softmax over its key blocks is the reference's softmax. -/

set_option maxRecDepth 16384

noncomputable section

namespace Cert.Proof.Attn

open Cert.KernelIdeal Cert.KernelIdeal.Gen Idealize.ShloMosaic Idealize.ShloMosaic.TcCoe Idealize.SL.Sem

variable (m : (ℓ : Loc nD τ sig) → Buf (Elt Ideal) ℓ)

/-- A row's state after point `t`: it has seen the key blocks up to the point's own, or up to its query block's last. -/
def St (c : Dev nD) (a : Args m c) (t : Fin cfg0.N) (r : Fin 2048) : Prop :=
  Inv (pos t.val r) (sig_ m c a t.val r) (val_ m c a t.val) (512 * (min (t.val % 4) (t.val / 4 % 16 / 4) + 1)) (mx m c t.val t.isLt (ix2 r 0))
    (sm m c t.val t.isLt (ix2 r 0)) (fun l => ac m c t.val t.isLt (ix2 r l))

/-- A row's state after its first block. -/
theorem St_first (c : Dev nD) (a : Args m c) (t : Fin cfg0.N) (h0 : t.val % 4 = 0) (r : Fin 2048) (h : Step m c t r ninf 0 (fun _ => 0)) :
    St m c a t r := by
  obtain ⟨e1, e2, e3⟩ := h
  have ht : 4 * (t.val % 4) ≤ t.val / 4 % 16 := by omega
  have hs := ss_eq m c a t ht r
  have hu := kb_val m c a t ht
  rw [h0] at hs hu
  have hi := inv_first (pos t.val r) (sig_ m c a t.val r) (val_ m c a t.val) (ss m c t r) hs
    (fun k l => kb m c t (ix2 k (⟨l.val, by omega⟩ : Fin 640))) (fun k l => (hu k l).trans (by rw [Nat.mul_zero, Nat.zero_add]))
  unfold St
  rw [e1, e2, funext e3, h0]
  simpa using hi

/-- A row's state after a further block that it sees. -/
theorem St_step (c : Dev nD) (a : Args m c) (t : Fin cfg0.N) (h0 : ¬t.val % 4 = 0) (ht : 4 * (t.val % 4) ≤ t.val / 4 % 16) (r : Fin 2048)
    (hp : t.val - 1 < cfg0.N) (hq : St m c a ⟨t.val - 1, hp⟩ r)
    (h : Step m c t r (mx m c (t.val - 1) hp (ix2 r 0)) (sm m c (t.val - 1) hp (ix2 r 0)) (fun l => ac m c (t.val - 1) hp (ix2 r l))) :
    St m c a t r := by
  obtain ⟨e1, e2, e3⟩ := h
  have d4 : (t.val - 1) / 4 = t.val / 4 := by omega
  have d64 : (t.val - 1) / 64 = t.val / 64 := by omega
  unfold St pos sig_ val_ pos at hq
  dsimp only at hq
  rw [d4, d64, show 512 * (min ((t.val - 1) % 4) (t.val / 4 % 16 / 4) + 1) = 512 * (t.val % 4) by omega] at hq
  have hi := inv_step (pos t.val r) (sig_ m c a t.val r) (val_ m c a t.val) (512 * (t.val % 4)) (by unfold pos; omega) _ _ _ (ss m c t r) (ss_eq m c a t ht r)
    (fun k l => kb m c t (ix2 k (⟨l.val, by omega⟩ : Fin 640))) (kb_val m c a t ht) hq
  unfold St
  rw [e1, e2, funext e3, show 512 * (min (t.val % 4) (t.val / 4 % 16 / 4) + 1) = 512 * (t.val % 4) + 512 by omega]
  exact hi

/-- A row's state after a block that the mask hides. -/
theorem St_skip (c : Dev nD) (a : Args m c) (t : Fin cfg0.N) (h0 : ¬t.val % 4 = 0) (ht : ¬4 * (t.val % 4) ≤ t.val / 4 % 16) (r : Fin 2048)
    (hp : t.val - 1 < cfg0.N) (hq : St m c a ⟨t.val - 1, hp⟩ r)
    (h : mx m c t.val t.isLt = mx m c (t.val - 1) hp ∧ sm m c t.val t.isLt = sm m c (t.val - 1) hp ∧ ac m c t.val t.isLt = ac m c (t.val - 1) hp) :
    St m c a t r := by
  obtain ⟨e1, e2, e3⟩ := h
  have d4 : (t.val - 1) / 4 = t.val / 4 := by omega
  have d64 : (t.val - 1) / 64 = t.val / 64 := by omega
  unfold St pos sig_ val_ pos at hq ⊢
  dsimp only at hq
  rw [d4, d64, show 512 * (min ((t.val - 1) % 4) (t.val / 4 % 16 / 4) + 1) = 512 * (min (t.val % 4) (t.val / 4 % 16 / 4) + 1) by omega] at hq
  rw [e1, e2, e3]
  exact hq

/-- Every row's state after every point. -/
theorem St_all (c : Dev nD) (a : Args m c) (r : Fin 2048) : ∀ (n : ℕ) (t : Fin cfg0.N), t.val = n → St m c a t r := by
  intro n
  induction n using Nat.strong_induction_on with
  | _ n ih =>
    intro t htn
    have hi : t.val / 4 % 16 < 16 := Nat.mod_lt _ (by omega)
    have hj : t.val % 4 < 4 := Nat.mod_lt _ (by omega)
    by_cases h0 : t.val % 4 = 0
    · refine St_first m c a t h0 r ?_
      by_cases h1 : 4 * (t.val % 4) + 4 ≤ t.val / 4 % 16
      · exact D_step m c t h0 h1 (by omega) (by omega) r
      · exact A_step m c t h0 h1 (by omega) (by omega) r
    · have hp : t.val - 1 < cfg0.N := lt_of_le_of_lt (Nat.sub_le _ _) t.isLt
      have hq : St m c a ⟨t.val - 1, hp⟩ r := ih (t.val - 1) (by omega) _ rfl
      by_cases ht : 4 * (t.val % 4) ≤ t.val / 4 % 16
      · refine St_step m c a t h0 ht r hp hq ?_
        by_cases h1 : 4 * (t.val % 4) + 4 ≤ t.val / 4 % 16
        · exact F_step m c t h0 h1 (by omega) (by omega) r hp
        · by_cases h3 : t.val % 4 = 3
          · exact G_step m c t h0 h1 (by omega) h3 r hp
          · exact E_step m c t h0 h1 (by omega) h3 r hp
      · refine St_skip m c a t h0 ht r hp hq ?_
        by_cases h3 : t.val % 4 = 3
        · exact C_step m c t h0 (by omega) (by omega) h3 hp
        · exact B_step m c t h0 (by omega) (by omega) h3 hp

/-- The layer's output at row `R` and column `j`. -/
def out (c : Dev nD) (a : Args m c) (W : S512x16x128.Idx → EReal) (R : ℕ) (j : Fin 2048) : EReal :=
  ∑ x : Fin 512, W (ix3 x (⟨j.val / 128, by omega⟩ : Fin 16) (⟨j.val % 128, by omega⟩ : Fin 128))
    * ((att (R % 2048) (sg a.Q a.Qp a.C a.Kp (R / 2048) (R % 2048) (⟨j.val / 128, by omega⟩ : Fin 16)) (fun k => a.C (R / 2048 * 2048 + k)) x : ℝ) : EReal)

/-- The output block at a query block's last point. -/
theorem ob_eq (c : Dev nD) (a : Args m c) (W : S512x16x128.Idx → EReal) (hW : m ((c : Thread nD τ).loc main_arg4) = W) (t : Fin cfg0.N)
    (h3 : t.val % 4 = 3) (y : S128x2048.Idx) (q : Fin 128) (hq : q = y 0) (j : Fin 2048) (hj : j = y 1) :
    ob m c t.val t.isLt y = out m c a W (128 * (t.val / 4) + q.val) j := by
  have hi : t.val / 4 % 16 < 16 := Nat.mod_lt _ (by omega)
  have ho : ob m c t.val t.isLt y = OUT (ac m c t.val t.isLt) (sm m c t.val t.isLt) (wb m c t) (y 0) (y 1) := by
    by_cases h2 : 4 * (t.val % 4) ≤ t.val / 4 % 16 ∧ t.val / 4 % 16 ≤ 4 * (t.val % 4) + 3
    · exact G_out m c t (by omega) (by omega) h2 h3 y
    · exact C_out m c t (by omega) (by omega) h2 h3 y
  rw [ho, ← hq, ← hj]
  unfold OUT out
  refine Finset.sum_congr rfl fun l _ => ?_
  have hs : St m c a t (srow q j) := St_all m c a _ _ t rfl
  have hpos : pos t.val (srow q j) = (128 * (t.val / 4) + q.val) % 2048 := by
    unfold pos srow
    dsimp only
    omega
  have hd := inv_div _ _ _ _ (by rw [hpos]; omega) (by omega) _ _ _ hs l
  rw [wb_at, V2 m c W hW, mul_comm]
  refine congrArg₂ (fun a b : EReal => a * b) rfl (hd.trans ?_)
  have hb : t.val / 64 = (128 * (t.val / 4) + q.val) / 2048 := by omega
  have hh : (⟨(srow q j).val / 128, by omega⟩ : Fin 16) = ⟨j.val / 128, by omega⟩ := Fin.ext (by unfold srow; dsimp only; omega)
  unfold sig_ val_
  rw [hpos, hb, hh]

/-- The layer's output. -/
def outA (c : Dev nD) (a : Args m c) (W : S512x16x128.Idx → EReal) : S8192x2048.Idx → EReal := fun i => out m c a W (i 0).val (i 1)

/-- The output array. -/
theorem out_arr (c : Dev nD) (a : Args m c) (W : S512x16x128.Idx → EReal) (hW : m ((c : Thread nD τ).loc main_arg4) = W) :
    (dats m 0 c).arrAt 3 cfg0.N = outA m c a W := by
  refine (dats m 0 c).arrAt_eq_of_covers 3 _ (by decide +kernel) fun t hf y => ?_
  blk_simp
  rw [after0_3]
  have hm : t.val % 4 = 3 := (flush0_3 t).mp hf
  obtain ⟨j, hj⟩ : ∃ j : Fin 2048, j = (((View.whole main_v10).slice (win0_3.rect t)).emb y) 1 := ⟨_, rfl⟩
  have hrv : ((((View.whole main_v10).slice (win0_3.rect t)).emb y) 0).val = 128 * (t.val / 4) + (y 0).val := by
    show win0_3.index t (0 : Fin 2) * 128 + 1 * (y 0).val = _
    rw [(idx t).2.2.2.2.2.2.2.2.2.1]
    omega
  have hjv : j = y 1 := by
    rw [hj]
    refine Fin.ext ?_
    show win0_3.index t (1 : Fin 2) * 2048 + 1 * (y 1).val = _
    rw [(idx t).2.2.2.2.2.2.2.2.2.2]
    omega
  refine (ob_eq m c a W hW t hm y (y 0) rfl j hjv).trans ?_
  have hA : ∀ i : S8192x2048.Idx, outA m c a W i = out m c a W (i 0).val (i 1) := fun _ => rfl
  refine Eq.trans ?_ (hA (((View.whole main_v10).slice (win0_3.rect t)).emb y)).symm
  rw [hrv, ← hj]

end Cert.Proof.Attn

namespace Cert.Proof.Attention

open Cert.KernelIdeal Cert.KernelIdeal.Gen Idealize.ShloMosaic Idealize.ShloMosaic.TcCoe Idealize.SL.Sem Cert.Proof.Attn

/-- Under the precondition the arguments are real. -/
theorem args (m : (ℓ : Loc nD τ sig) → Buf (Elt Ideal) ℓ) (h : Cert.Pre_KernelIdeal_attn_args_finite m) (c : Dev nD) : Nonempty (Args m c) := by
  obtain ⟨h0, h1, h2, h3⟩ := pre_real _ _ _ _ _ (h c)
  choose f0 e0 using h0
  choose f1 e1 using h1
  choose f2 e2 using h2
  choose f3 e3 using h3
  refine ⟨⟨fun r h l => if hr : r < 8704 then f0 (ix3 ⟨r, hr⟩ h l) else 0, fun r h l => if hr : r < 8704 then f1 (ix3 ⟨r, hr⟩ h l) else 0,
    fun r l => if hr : r < 8704 then f2 (ix2 ⟨r, hr⟩ l) else 0, fun r l => if hr : r < 8704 then f3 (ix2 ⟨r, hr⟩ l) else 0, ?_, ?_, ?_, ?_⟩⟩
  · intro r h l
    rw [dif_pos r.isLt]
    exact e0 _
  · intro r h l
    rw [dif_pos r.isLt]
    exact e1 _
  · intro r l
    rw [dif_pos r.isLt]
    exact e2 _
  · intro r l
    rw [dif_pos r.isLt]
    exact e3 _

/-- The kernel's attention is the reference's, for arguments that are finite. -/
theorem value : algebraic_KernelIdeal_ReferenceIdeal_pre_attn_args_finite := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨a0, a1, a2, a3, a4⟩ := hagree c
  obtain ⟨a⟩ := args m hpre c
  rw [res_eq, a0, a1, a2, a3, a4, out_arr m c a _ rfl]
  clear h hagree
  funext i
  obtain ⟨r, j, rfl⟩ : ∃ (r : Fin 8192) (j : Fin 2048), i = ix2 r j := ⟨i 0, i 1, by funext a; fin_cases a <;> rfl⟩
  exact ref_at _ _ _ _ _ a.Q a.Qp a.C a.Kp a.hQ a.hQp a.hC a.hK r j

end Cert.Proof.Attention

end
-- ==== Proof.Swiglu.lean ====
module

public import proofs.«01_k».proof.Defs
public import proofs.«01_k».proof.Proof.Gen.Kernel2Ideal.Value
public import proofs.«01_k».proof.Proof.Gen.Reference2Ideal.Run
public import Idealize.ShloMosaic.Lib.Tactic.ValueTie
public import Idealize.ShloMosaic.Lib.Pipeline.ValueKit
public import Idealize.ShloMosaic.Lib.StableHlo.ReadAt
public import Idealize.ShloMosaic.Lib.Claim

@[expose] public section

/-! The gated unit `silu(f w_gate) * (f w_up)`: one block per grid point, the whole contraction in one product. -/

set_option maxRecDepth 16384

noncomputable section

namespace Cert.Proof.Swiglu

open Cert.Kernel2Ideal Cert.Kernel2Ideal.Gen Idealize.ShloMosaic Idealize.ShloMosaic.TcCoe Idealize.SL.Sem

variable (m : (ℓ : Loc nD τ sig) → Buf (Elt Ideal) ℓ)

/-- Where each window's block sits, over the output's. -/
theorem idx (t : Fin cfg0.N) : win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2) :=
  (by decide +kernel : ∀ t : Fin grid0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)) t

/-- What the output array holds at an index, over the arrays that the region enters with. -/
def G (X : S8704x4096.Idx → EReal) (Wg Wu : S4096x11264.Idx → EReal) (i : S8704x11264.Idx) : EReal :=
  (∑ k : Fin 4096, X (ix2 (i 0) k) * Wg (ix2 k (i 1)))
    * Ideal.logistic (∑ k : Fin 4096, X (ix2 (i 0) k) * Wg (ix2 k (i 1)))
    * (∑ k : Fin 4096, X (ix2 (i 0) k) * Wu (ix2 k (i 1)))

/-- The same at a row and a column, over the factors there. -/
theorem G_at (X : S8704x4096.Idx → EReal) (Wg Wu : S4096x11264.Idx → EReal) (r : Fin 8704) (j : Fin 11264) (x g u : Fin 4096 → EReal)
    (hx : ∀ k, X (ix2 r k) = x k) (hg : ∀ k, Wg (ix2 k j) = g k) (hu : ∀ k, Wu (ix2 k j) = u k) :
    G X Wg Wu (ix2 r j) = (∑ k, x k * g k) * Ideal.logistic (∑ k, x k * g k) * (∑ k, x k * u k) := by
  show (∑ k : Fin 4096, X (ix2 r k) * Wg (ix2 k j)) * Ideal.logistic (∑ k : Fin 4096, X (ix2 r k) * Wg (ix2 k j))
    * (∑ k : Fin 4096, X (ix2 r k) * Wu (ix2 k j)) = _
  simp only [hx, hg, hu]

/-- The output array after the run is that function of the entry arrays. -/
theorem out_arr (c : Dev nD) : (dats m 0 c).arrAt 3 cfg0.N
    = G (V m c (Pipeline.arrRef spec0 0)) (V m c (Pipeline.arrRef spec0 1)) (V m c (Pipeline.arrRef spec0 2)) := by
  refine (dats m 0 c).arrAt_eq_of_covers 3 _ (by decide +kernel) fun t hf y => ?_
  blk_simp
  rw [after0_3]
  frame_out
  unfold k0_pay1
  pointwise
  have h0 : ∀ k, iblk m c 0 t (ix2 (y 0) k)
      = V m c (Pipeline.arrRef spec0 0) (ix2 ((((View.whole main_v5).slice (win0_3.rect t)).emb y) 0) k) := fun k => by
    blk_ext [iblk, idx t]
  have h1 : ∀ k, iblk m c 1 t (ix2 k (y 1))
      = V m c (Pipeline.arrRef spec0 1) (ix2 k ((((View.whole main_v5).slice (win0_3.rect t)).emb y) 1)) := fun k => by
    blk_ext [iblk, idx t]
  have h2 : ∀ k, iblk m c 2 t (ix2 k (y 1))
      = V m c (Pipeline.arrRef spec0 2) (ix2 k ((((View.whole main_v5).slice (win0_3.rect t)).emb y) 1)) := fun k => by
    blk_ext [iblk, idx t]
  simp only [h0, h1, h2]
  rfl

/-- The first window's array at the region's entry, over the arguments. -/
theorem V0 (c : Dev nD) (i : S8704x4096.Idx) : V m c (Pipeline.arrRef spec0 0) i = m ((c : Thread nD τ).loc main_arg0) i := by
  show V m c main_v4 i = _
  unfold V
  after_reads_at

/-- The padding value is zero. -/
theorem zero_f32 : (FloatOps.sitofp (F := Ideal) FTy.f32 (0#32) : Ideal .f32) = (0 : EReal) := by
  show (((0#32 : BitVec 32).toInt : ℝ) : EReal) = 0
  norm_num

/-- The second window's array at the region's entry, over the arguments. -/
theorem V1 (c : Dev nD) (k : Fin 4096) (j : Fin 11264) : (V m c (Pipeline.arrRef spec0 1) (ix2 k j) : EReal)
    = if h : j.val < 11008 then (show EReal from m ((c : Thread nD τ).loc main_arg1) (ix2 k ⟨j.val, h⟩)) else (0 : EReal) := by
  show V m c main_v1 (ix2 k j) = _
  unfold V
  after_reads_at
  rw [zero_f32]

/-- The third window's array at the region's entry, over the arguments. -/
theorem V2 (c : Dev nD) (k : Fin 4096) (j : Fin 11264) : (V m c (Pipeline.arrRef spec0 2) (ix2 k j) : EReal)
    = if h : j.val < 11008 then (show EReal from m ((c : Thread nD τ).loc main_arg2) (ix2 k ⟨j.val, h⟩)) else (0 : EReal) := by
  show V m c main_v3 (ix2 k j) = _
  unfold V
  after_reads_at
  rw [zero_f32]

/-- The kernel's result is the reference's. -/
theorem value : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  rw [out_arr]
  clean_types
  funext i
  pointwise
  obtain ⟨i, rfl⟩ : ∃ p : Fin 8704 × Fin 11264, i = ix2 p.1 p.2 := ⟨(i 0, i 1), by funext a; fin_cases a <;> rfl⟩
  obtain ⟨r, j⟩ := i
  show _ = G _ _ _ (ix2 r j)
  rw [zero_f32]
  rw [G_at _ _ _ r j _ _ _ (fun k => V0 m c (ix2 r k)) (fun k => V1 m c k j) (fun k => V2 m c k j)]
  by_cases hj : j.val < 11008
  · refine Eq.trans (dif_pos (show (ix2 r j 1).val < 11008 from hj)) ?_
    simp only [dif_pos hj]
    rfl
  · refine Eq.trans (dif_neg (show ¬ (ix2 r j 1).val < 11008 from hj)) ?_
    simp only [dif_neg hj, mul_zero, Finset.sum_const_zero]

end Cert.Proof.Swiglu

end
-- ==== Proof.DownProj.lean ====
module

public import proofs.«01_k».proof.Defs
public import proofs.«01_k».proof.Proof.Gen.Kernel3Ideal.Value
public import proofs.«01_k».proof.Proof.Gen.Reference3Ideal.Run
public import Idealize.ShloMosaic.Lib.Tactic.ValueTie
public import Idealize.ShloMosaic.Lib.Pipeline.ValueKit
public import Idealize.ShloMosaic.Lib.StableHlo.ReadAt
public import Idealize.ShloMosaic.Lib.Pipeline.ReadBack
public import Idealize.ShloMosaic.Lib.Claim

@[expose] public section

/-! The down projection with its residual (`matmul_kres`): the contraction runs over four column blocks of 2816, summed
    in a scratch accumulator that the first block resets, and the last block adds the residual. -/

set_option maxRecDepth 16384

noncomputable section

namespace Cert.Proof.DownProj

open Cert.Kernel3Ideal Cert.Kernel3Ideal.Gen Idealize.ShloMosaic Idealize.ShloMosaic.TcCoe Idealize.SL.Sem

variable (m : (ℓ : Loc nD τ sig) → Buf (Elt Ideal) ℓ)

/-- Point `t`'s block of the left factor. -/
def bu (c : Dev nD) (t : Fin cfg0.N) : S1088x2816.Idx → EReal := iblk m c 0 t

/-- Point `t`'s block of the right factor. -/
def bw (c : Dev nD) (t : Fin cfg0.N) : S2816x1024.Idx → EReal := iblk m c 1 t

/-- Point `t`'s block of the residual. -/
def bx (c : Dev nD) (t : Fin cfg0.N) : S1088x1024.Idx → EReal := iblk m c 2 t

/-- The accumulator after point `n`. -/
def acc (c : Dev nD) (n : ℕ) (hn : n < cfg0.N) : S1088x1024.Idx → EReal := (outsAt0 m c n hn).2

/-- The output block after point `n`. -/
def out (c : Dev nD) (n : ℕ) (hn : n < cfg0.N) : S1088x1024.Idx → EReal := (outsAt0 m c n hn).1

/-- One block's contribution to the accumulator at an index of the block. -/
def D (c : Dev nD) (t : Fin cfg0.N) (y : S1088x1024.Idx) : EReal :=
  ∑ k : Fin 2816, bu m c t (ix2 (y 0) k) * bw m c t (ix2 k (y 1))

/-- The first block leaves its own contribution in the accumulator. -/
theorem acc_A (c : Dev nD) (t : Fin cfg0.N) (h0 : t.val % 4 = 0) (h1 : ¬t.val % 4 = 3) (y : S1088x1024.Idx) :
    acc m c t.val t.isLt y = D m c t y := by
  unfold acc
  rw [outsAt0_A m c t h0 h1]
  dsimp only
  frame_out
  unfold k0_pay2 k0_pay1 D
  pointwise
  rfl

/-- A middle block adds its contribution. -/
theorem acc_B (c : Dev nD) (t : Fin cfg0.N) (h0 : ¬t.val % 4 = 0) (h1 : ¬t.val % 4 = 3) (y : S1088x1024.Idx) :
    acc m c t.val t.isLt y = acc m c (t.val - 1) (Nat.lt_of_le_of_lt (Nat.sub_le _ _) t.isLt) y + D m c t y := by
  unfold acc
  rw [outsAt0_B m c t h0 h1]
  dsimp only
  frame_out
  unfold k0_pay2 D
  pointwise
  rw [read_unread_whole]
  rfl

/-- The last block's output is the residual added to the whole sum. -/
theorem out_C (c : Dev nD) (t : Fin cfg0.N) (h0 : ¬t.val % 4 = 0) (h1 : t.val % 4 = 3) (y : S1088x1024.Idx) :
    out m c t.val t.isLt y
      = bx m c t y + (acc m c (t.val - 1) (Nat.lt_of_le_of_lt (Nat.sub_le _ _) t.isLt) y + D m c t y) := by
  unfold acc out
  rw [outsAt0_C m c t h0 h1]
  dsimp only
  frame_out
  unfold k0_pay3 k0_pay2 D
  pointwise
  rw [read_unread_whole]
  rfl

/-- A product's terms as a function of the natural column number, zero past the 11008 real columns. -/
def term (u w : Fin 11008 → EReal) (n : ℕ) : EReal := if h : n < 11008 then u ⟨n, h⟩ * w ⟨n, h⟩ else 0

/-- A row of the padded factor: the real columns, then zeros. -/
def padv (u : Fin 11008 → EReal) (n : Fin 11264) : EReal := if h : n.val < 11008 then u ⟨n.val, h⟩ else 0

/-- The product of the two padded factors at a column. -/
theorem padv_mul (u w : Fin 11008 → EReal) (n : Fin 11264) : padv u n * padv w n = term u w n.val := by
  unfold padv term
  split_ifs <;> simp

/-- The four blocks' sums are the sum over the real columns. -/
theorem sum_blocks (u w : Fin 11008 → EReal) :
    ((∑ k : Fin 2816, term u w (0 + k.val)) + ∑ k : Fin 2816, term u w (2816 + k.val))
      + (∑ k : Fin 2816, term u w (5632 + k.val)) + (∑ k : Fin 2816, term u w (8448 + k.val)) = ∑ k, u k * w k := by
  rw [Fin.sum_univ_eq_sum_range (fun n => term u w (0 + n)), Fin.sum_univ_eq_sum_range (fun n => term u w (2816 + n)),
    Fin.sum_univ_eq_sum_range (fun n => term u w (5632 + n)), Fin.sum_univ_eq_sum_range (fun n => term u w (8448 + n))]
  rw [show (fun n => term u w (0 + n)) = term u w from funext fun n => by rw [Nat.zero_add], ← Finset.sum_range_add (term u w) 2816 2816, show 2816 + 2816 = 5632 from rfl, ← Finset.sum_range_add (term u w) 5632 2816,
    show 5632 + 2816 = 8448 from rfl, ← Finset.sum_range_add (term u w) 8448 2816, show 8448 + 2816 = 11008 + 256 from rfl,
    Finset.sum_range_add (term u w) 11008 256, Finset.sum_eq_zero (s := Finset.range 256), add_zero,
    ← Fin.sum_univ_eq_sum_range (term u w)]
  · refine Finset.sum_congr rfl fun k _ => ?_
    unfold term
    rw [dif_pos k.isLt]
  · intro n _
    unfold term
    rw [dif_neg (by omega)]

/-- The output block at a run's last point, over the run's four contributions. -/
theorem out_run (c : Dev nD) (q : ℕ) (hq : 4 * q + 3 < cfg0.N) (y : S1088x1024.Idx) :
    out m c (4 * q + 3) hq y = bx m c ⟨4 * q + 3, hq⟩ y
      + (D m c ⟨4 * q, by omega⟩ y + D m c ⟨4 * q + 1, by omega⟩ y + D m c ⟨4 * q + 2, by omega⟩ y + D m c ⟨4 * q + 3, hq⟩ y) := by
  have e3 : out m c (4 * q + 3) hq y = bx m c ⟨4 * q + 3, hq⟩ y + (acc m c (4 * q + 2) (by omega) y + D m c ⟨4 * q + 3, hq⟩ y) :=
    out_C m c ⟨4 * q + 3, hq⟩ (by dsimp only; omega) (by dsimp only; omega) y
  have e2 : acc m c (4 * q + 2) (by omega) y = acc m c (4 * q + 1) (by omega) y + D m c ⟨4 * q + 2, by omega⟩ y :=
    acc_B m c ⟨4 * q + 2, by omega⟩ (by dsimp only; omega) (by dsimp only; omega) y
  have e1 : acc m c (4 * q + 1) (by omega) y = acc m c (4 * q) (by omega) y + D m c ⟨4 * q + 1, by omega⟩ y :=
    acc_B m c ⟨4 * q + 1, by omega⟩ (by dsimp only; omega) (by dsimp only; omega) y
  have e0 : acc m c (4 * q) (by omega) y = D m c ⟨4 * q, by omega⟩ y :=
    acc_A m c ⟨4 * q, by omega⟩ (by dsimp only; omega) (by dsimp only; omega) y
  rw [e3, e2, e1, e0]

/-- Where each window's block sits, over the output's. -/
theorem idx (t : Fin cfg0.N) : win0_0.index t (0 : Fin 2) = win0_3.index t (0 : Fin 2) ∧ win0_0.index t (1 : Fin 2) = t.val % 4
    ∧ win0_1.index t (0 : Fin 2) = t.val % 4 ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) = t.val / 16 ∧ win0_3.index t (1 : Fin 2) = t.val / 4 % 4 :=
  (by decide +kernel : ∀ t : Fin grid0.N, win0_0.index t (0 : Fin 2) = win0_3.index t (0 : Fin 2) ∧ win0_0.index t (1 : Fin 2) = t.val % 4
    ∧ win0_1.index t (0 : Fin 2) = t.val % 4 ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) = t.val / 16 ∧ win0_3.index t (1 : Fin 2) = t.val / 4 % 4) t

/-- The padding value is zero. -/
theorem zero_f32 : FloatOps.sitofp (F := Ideal) FTy.f32 (0#32) = (0 : EReal) := by
  show (((0#32 : BitVec 32).toInt : ℝ) : EReal) = 0
  norm_num

/-- The padded left factor at the region's entry. -/
theorem V0 (c : Dev nD) (U : S8704x11008.Idx → EReal) (hU : m ((c : Thread nD τ).loc main_arg0) = U) (r : Fin 8704) (k : Fin 11264) :
    (V m c (Pipeline.arrRef spec0 0) (ix2 r k) : EReal) = padv (fun n => U (ix2 r n)) k := by
  show V m c main_v3 (ix2 r k) = _
  unfold V
  after_reads_at
  have hU' : m (c, Proc.tc.devRef main_arg0) = U := hU
  simp only [hU']
  rw [zero_f32]
  rfl

/-- The padded right factor at the region's entry. -/
theorem V1 (c : Dev nD) (W : S11008x4096.Idx → EReal) (hW : m ((c : Thread nD τ).loc main_arg1) = W) (k : Fin 11264) (j : Fin 4096) :
    (V m c (Pipeline.arrRef spec0 1) (ix2 k j) : EReal) = padv (fun n => W (ix2 n j)) k := by
  show V m c main_v1 (ix2 k j) = _
  unfold V
  after_reads_at
  have hW' : m (c, Proc.tc.devRef main_arg1) = W := hW
  simp only [hW']
  rw [zero_f32]
  rfl

/-- The down projection with its residual. -/
def G (U : S8704x11008.Idx → EReal) (W : S11008x4096.Idx → EReal) (X : S8704x4096.Idx → EReal) (i : S8704x4096.Idx) : EReal :=
  X i + ∑ k : Fin 11008, U (ix2 (i 0) k) * W (ix2 k (i 1))

/-- One block's contribution as terms of the whole sum. -/
theorem D_eq (c : Dev nD) (U : S8704x11008.Idx → EReal) (hU : m ((c : Thread nD τ).loc main_arg0) = U)
    (W : S11008x4096.Idx → EReal) (hW : m ((c : Thread nD τ).loc main_arg1) = W) (t : Fin cfg0.N) (b : ℕ) (hb : b = 2816 * (t.val % 4))
    (y : S1088x1024.Idx) (r : Fin 8704) (j : Fin 4096) (hr : r.val = 1088 * (t.val / 16) + (y 0).val)
    (hj : j.val = 1024 * (t.val / 4 % 4) + (y 1).val) :
    D m c t y = ∑ k : Fin 2816, term (fun n => U (ix2 r n)) (fun n => W (ix2 n j)) (b + k.val) := by
  subst hb
  unfold D
  refine Finset.sum_congr rfl fun k _ => ?_
  have hk : 2816 * (t.val % 4) + k.val < 11264 := by have := k.isLt; omega
  have h0 : bu m c t (ix2 (y 0) k) = V m c (Pipeline.arrRef spec0 0) (ix2 r (⟨2816 * (t.val % 4) + k.val, hk⟩ : Fin 11264)) := by
    unfold bu
    blk_ext [iblk, idx t, hr]
  have h1 : bw m c t (ix2 k (y 1)) = V m c (Pipeline.arrRef spec0 1) (ix2 (⟨2816 * (t.val % 4) + k.val, hk⟩ : Fin 11264) j) := by
    unfold bw
    blk_ext [iblk, idx t, hj]
  rw [h0, h1, V0 m c U hU, V1 m c W hW, padv_mul]

/-- The output array after the run. -/
theorem out_arr (c : Dev nD) (U : S8704x11008.Idx → EReal) (hU : m ((c : Thread nD τ).loc main_arg0) = U)
    (W : S11008x4096.Idx → EReal) (hW : m ((c : Thread nD τ).loc main_arg1) = W)
    (X : S8704x4096.Idx → EReal) (hX : m ((c : Thread nD τ).loc main_arg2) = X) :
    (dats m 0 c).arrAt 3 cfg0.N = G U W X := by
  refine (dats m 0 c).arrAt_eq_of_covers 3 _ (by decide +kernel) fun t hf y => ?_
  blk_simp
  rw [after0_3]
  have hm : t.val % 4 = 3 := (flush0_3 t).mp hf
  have hN : cfg0.N = 128 := N_0
  have htl : t.val < 128 := lt_of_lt_of_eq t.isLt N_0
  obtain ⟨q, hq, ht⟩ : ∃ (q : ℕ) (hq : 4 * q + 3 < cfg0.N), t = ⟨4 * q + 3, hq⟩ :=
    ⟨t.val / 4, by rw [hN]; omega, Fin.ext (by dsimp only; omega)⟩
  subst ht
  refine (out_run m c q hq y).trans ?_
  obtain ⟨r, hr⟩ : ∃ r : Fin 8704, r = (((View.whole main_v4).slice (win0_3.rect ⟨4 * q + 3, hq⟩)).emb y) 0 := ⟨_, rfl⟩
  obtain ⟨j, hj⟩ : ∃ j : Fin 4096, j = (((View.whole main_v4).slice (win0_3.rect ⟨4 * q + 3, hq⟩)).emb y) 1 := ⟨_, rfl⟩
  have hrv : r.val = 1088 * (q / 4) + (y 0).val := by
    rw [hr]
    show win0_3.index ⟨4 * q + 3, hq⟩ (0 : Fin 2) * 1088 + 1 * (y 0).val = _
    rw [(idx ⟨4 * q + 3, hq⟩).2.2.2.2.2.2.1]
    dsimp only
    omega
  have hjv : j.val = 1024 * (q % 4) + (y 1).val := by
    rw [hj]
    show win0_3.index ⟨4 * q + 3, hq⟩ (1 : Fin 2) * 1024 + 1 * (y 1).val = _
    rw [(idx ⟨4 * q + 3, hq⟩).2.2.2.2.2.2.2]
    dsimp only
    omega
  rw [D_eq m c U hU W hW ⟨4 * q, by omega⟩ 0 (by dsimp only; omega) y r j (by dsimp only; omega) (by dsimp only; omega),
    D_eq m c U hU W hW ⟨4 * q + 1, by omega⟩ 2816 (by dsimp only; omega) y r j (by dsimp only; omega) (by dsimp only; omega),
    D_eq m c U hU W hW ⟨4 * q + 2, by omega⟩ 5632 (by dsimp only; omega) y r j (by dsimp only; omega) (by dsimp only; omega),
    D_eq m c U hU W hW ⟨4 * q + 3, hq⟩ 8448 (by dsimp only; omega) y r j (by dsimp only; omega) (by dsimp only; omega), sum_blocks]
  have hx : bx m c ⟨4 * q + 3, hq⟩ y = V m c main_arg2 (((View.whole main_v4).slice (win0_3.rect ⟨4 * q + 3, hq⟩)).emb y) := by
    unfold bx
    blk_ext [iblk, idx ⟨4 * q + 3, hq⟩]
  rw [hx, hr, hj]
  rw [V_main_arg2, hX]
  rfl

/-- The kernel's down projection with its residual computes the reference's. -/
theorem value : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  obtain ⟨a0, a1, a2⟩ := hagree c
  rw [a0, a1, a2, out_arr m c _ rfl _ rfl _ rfl]
  clear h hagree
  clean_types
  funext i
  pointwise
  rfl

end Cert.Proof.DownProj

end
-- ==== Proof.InProj.lean ====
module

public import proofs.«01_k».proof.Defs
public import proofs.«01_k».proof.Proof.Gen.Kernel4Ideal.Value
public import proofs.«01_k».proof.Proof.Gen.Reference4Ideal.Run
public import Idealize.ShloMosaic.Lib.Tactic.ValueTie
public import Idealize.ShloMosaic.Lib.Pipeline.ValueKit
public import Idealize.ShloMosaic.Lib.StableHlo.ReadAt
public import Idealize.ShloMosaic.Lib.Claim

@[expose] public section

/-! The input projection in the padded layout of its columns: one block per grid point. -/

set_option maxRecDepth 16384

noncomputable section

namespace Cert.Proof.InProj

open Cert.Kernel4Ideal Cert.Kernel4Ideal.Gen Idealize.ShloMosaic Idealize.ShloMosaic.TcCoe Idealize.SL.Sem

variable (m : (ℓ : Loc nD τ sig) → Buf (Elt Ideal) ℓ)

/-- Where each window's block sits, over the output's. -/
theorem idx (t : Fin cfg0.N) : win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)) t

/-- What the output array holds at an index, over the arrays that the region enters with. -/
def G (X : S8704x4096.Idx → EReal) (W : S4096x6144.Idx → EReal) (i : S8704x6144.Idx) : EReal :=
  ∑ k : Fin 4096, X (ix2 (i 0) k) * W (ix2 k (i 1))

/-- The same at a row and a column, over the factors there. -/
theorem G_at (X : S8704x4096.Idx → EReal) (W : S4096x6144.Idx → EReal) (r : Fin 8704) (j : Fin 6144) (x w : Fin 4096 → EReal)
    (hx : ∀ k, X (ix2 r k) = x k) (hw : ∀ k, W (ix2 k j) = w k) : G X W (ix2 r j) = ∑ k, x k * w k := by
  show (∑ k : Fin 4096, X (ix2 r k) * W (ix2 k j)) = _
  simp only [hx, hw]

/-- The output array after the run is that function of the entry arrays. -/
theorem out_arr (c : Dev nD) : (dats m 0 c).arrAt 2 cfg0.N
    = G (V m c (Pipeline.arrRef spec0 0)) (V m c (Pipeline.arrRef spec0 1)) := by
  refine (dats m 0 c).arrAt_eq_of_covers 2 _ (by decide +kernel) fun t hf y => ?_
  blk_simp
  rw [after0_2]
  frame_out
  unfold k0_pay1
  pointwise
  have h0 : ∀ k, iblk m c 0 t (ix2 (y 0) k)
      = V m c (Pipeline.arrRef spec0 0) (ix2 ((((View.whole main_v8).slice (win0_2.rect t)).emb y) 0) k) := fun k => by
    blk_ext [iblk, idx t]
  have h1 : ∀ k, iblk m c 1 t (ix2 k (y 1))
      = V m c (Pipeline.arrRef spec0 1) (ix2 k ((((View.whole main_v8).slice (win0_2.rect t)).emb y) 1)) := fun k => by
    blk_ext [iblk, idx t]
  simp only [h0, h1]
  rfl

/-- The first window's array at the region's entry, over the arguments. -/
theorem V0 (c : Dev nD) (i : S8704x4096.Idx) : V m c (Pipeline.arrRef spec0 0) i = m ((c : Thread nD τ).loc main_arg0) i := by
  show V m c main_v7 i = _
  unfold V
  after_reads_at

/-- The padded layout of the input projection's columns: the rotary key's 64 columns twice, 384 zero columns, the rest. -/
def col (w : Fin 5696 → EReal) (j : Fin 6144) : EReal :=
  if h : j.val < 1600 then w ⟨j.val, by omega⟩ else if h : j.val < 1664 then w ⟨j.val - 64, by omega⟩
    else if h : j.val < 2048 then 0 else w ⟨j.val - 448, by omega⟩

/-- A sum against the padded columns is the padded layout of the sums. -/
theorem sum_col (x : Fin 4096 → EReal) (w : Fin 4096 → Fin 5696 → EReal) (j : Fin 6144) :
    ∑ k, x k * col (w k) j = col (fun n => ∑ k, x k * w k n) j := by
  unfold col
  split_ifs <;> simp

/-- The second window's array at the region's entry, over the arguments. -/
theorem V1 (c : Dev nD) (W : S4096x5696.Idx → EReal) (hW : m ((c : Thread nD τ).loc main_arg1) = W) (k : Fin 4096) (j : Fin 6144) :
    (V m c (Pipeline.arrRef spec0 1) (ix2 k j) : EReal) = col (fun n => W (ix2 k n)) j := by
  show V m c main_v6 (ix2 k j) = _
  unfold V
  after_reads_at
  after_reads_at
  have hW' : m (c, Proc.tc.devRef main_arg1) = W := hW
  simp only [hW']
  unfold col
  have hj := j.isLt
  dsimp only
  by_cases h1 : j.val < 1536
  · simp (disch := omega) only [dif_pos]
  by_cases h2 : j.val < 1600
  · simp (disch := omega) only [dif_pos, dif_neg, show 1536 + (j.val - 1536) = j.val by omega]
  by_cases h3 : j.val < 1664
  · simp (disch := omega) only [dif_pos, dif_neg, show 1536 + (j.val - 1536 - 64) = j.val - 64 by omega]
  by_cases h4 : j.val < 2048
  · simp (disch := omega) only [dif_pos, dif_neg]
  · simp (disch := omega) only [dif_neg, show 1600 + (j.val - 1536 - 128 - 384) = j.val - 448 by omega]

/-- The kernel's result is the reference's. -/
theorem value : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1]
  obtain ⟨a0, a1⟩ := hagree c
  rw [a0, a1, out_arr]
  clear h hagree
  clean_types
  funext i
  pointwise
  obtain ⟨r, j, rfl⟩ : ∃ (r : Fin 8704) (j : Fin 6144), i = ix2 r j := ⟨i 0, i 1, by funext a; fin_cases a <;> rfl⟩
  obtain ⟨X, hX⟩ : ∃ X : S8704x4096.Idx → EReal, m ((c.tc : Thread nD τ).loc main_arg0) = X := ⟨_, rfl⟩
  obtain ⟨W, hW⟩ : ∃ W : S4096x5696.Idx → EReal, m ((c.tc : Thread nD τ).loc main_arg1) = W := ⟨_, rfl⟩
  rw [G_at _ _ r j _ _ (fun k => (V0 m c (ix2 r k)).trans (congrFun hX _)) (fun k => V1 m c W hW k j), sum_col]
  simp only [hX, hW, show ix2 r j 0 = r from rfl, show ix2 r j 1 = j from rfl]
  unfold col
  dsimp only
  have hj := j.isLt
  by_cases h1 : j.val < 1024
  · simp (disch := omega) only [dif_pos]
  by_cases h2 : j.val < 1536
  · simp (disch := omega) only [dif_pos, dif_neg, show 1024 + (j.val - 1024) = j.val by omega]
  by_cases h3 : j.val < 1600
  · simp (disch := omega) only [dif_pos, dif_neg, show 1536 + (j.val - 1024 - 512) = j.val by omega]
  by_cases h4 : j.val < 1664
  · simp (disch := omega) only [dif_pos, dif_neg, show 1536 + (j.val - 1024 - 512 - 64) = j.val - 64 by omega]
  by_cases h5 : j.val < 2048
  · simp (disch := omega) only [dif_pos, dif_neg]
  by_cases h6 : j.val < 4096
  · simp (disch := omega) only [dif_pos, dif_neg, show 1600 + (j.val - 1024 - 512 - 64 - 64 - 384) = j.val - 448 by omega]
  · simp (disch := omega) only [dif_neg, show 3648 + (j.val - 1024 - 512 - 64 - 64 - 384 - 2048) = j.val - 448 by omega]

end Cert.Proof.InProj

end
-- ==== Proof.OutProj.lean ====
module

public import proofs.«01_k».proof.Defs
public import proofs.«01_k».proof.Proof.Gen.Kernel5Ideal.Value
public import proofs.«01_k».proof.Proof.Gen.Reference5Ideal.Run
public import Idealize.ShloMosaic.Lib.Tactic.ValueTie
public import Idealize.ShloMosaic.Lib.Pipeline.ValueKit
public import Idealize.ShloMosaic.Lib.StableHlo.ReadAt
public import Idealize.ShloMosaic.Lib.Claim

@[expose] public section

/-! The output projection of the two head groups' outputs, with the residual: one block per grid point. -/

set_option maxRecDepth 16384

noncomputable section

namespace Cert.Proof.OutProj

open Cert.Kernel5Ideal Cert.Kernel5Ideal.Gen Idealize.ShloMosaic Idealize.ShloMosaic.TcCoe Idealize.SL.Sem

variable (m : (ℓ : Loc nD τ sig) → Buf (Elt Ideal) ℓ)

/-- Where each window's block sits, over the output's. -/
theorem idx (t : Fin cfg0.N) : win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2) :=
  (by decide +kernel : ∀ t : Fin grid0.N, win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = win0_3.index t (0 : Fin 2) ∧ win0_2.index t (1 : Fin 2) = win0_3.index t (1 : Fin 2)) t

/-- What the output array holds at an index, over the arrays that the region enters with. -/
def G (X : S8704x4096.Idx → EReal) (W : S4096x4096.Idx → EReal) (R : S8704x4096.Idx → EReal) (i : S8704x4096.Idx) : EReal :=
  R i + ∑ k : Fin 4096, X (ix2 (i 0) k) * W (ix2 k (i 1))

/-- The same at a row and a column, over the factors there. -/
theorem G_at (X : S8704x4096.Idx → EReal) (W : S4096x4096.Idx → EReal) (R : S8704x4096.Idx → EReal) (r : Fin 8704) (j : Fin 4096)
    (x w : Fin 4096 → EReal) (a : EReal) (hx : ∀ k, X (ix2 r k) = x k) (hw : ∀ k, W (ix2 k j) = w k) (ha : R (ix2 r j) = a) :
    G X W R (ix2 r j) = a + ∑ k, x k * w k := by
  show R (ix2 r j) + (∑ k : Fin 4096, X (ix2 r k) * W (ix2 k j)) = _
  simp only [hx, hw, ha]

/-- The output array after the run is that function of the entry arrays. -/
theorem out_arr (c : Dev nD) : (dats m 0 c).arrAt 3 cfg0.N
    = G (V m c (Pipeline.arrRef spec0 0)) (V m c (Pipeline.arrRef spec0 1)) (V m c (Pipeline.arrRef spec0 2)) := by
  refine (dats m 0 c).arrAt_eq_of_covers 3 _ (by decide +kernel) fun t hf y => ?_
  blk_simp
  rw [after0_3]
  frame_out
  unfold k0_pay1
  pointwise
  have h0 : ∀ k, iblk m c 0 t (ix2 (y 0) k)
      = V m c (Pipeline.arrRef spec0 0) (ix2 ((((View.whole main_v4).slice (win0_3.rect t)).emb y) 0) k) := fun k => by
    blk_ext [iblk, idx t]
  have h1 : ∀ k, iblk m c 1 t (ix2 k (y 1))
      = V m c (Pipeline.arrRef spec0 1) (ix2 k ((((View.whole main_v4).slice (win0_3.rect t)).emb y) 1)) := fun k => by
    blk_ext [iblk, idx t]
  have h2 : iblk m c 2 t y = V m c (Pipeline.arrRef spec0 2) (((View.whole main_v4).slice (win0_3.rect t)).emb y) := by
    blk_ext [iblk, idx t]
  simp only [h0, h1, h2]
  rfl

/-- The first window's array at the region's entry, over the arguments. -/
theorem V0 (c : Dev nD) (A B : S8704x2048.Idx → EReal) (hA : m ((c : Thread nD τ).loc main_arg0) = A)
    (hB : m ((c : Thread nD τ).loc main_arg1) = B) (r : Fin 8704) (k : Fin 4096) :
    (V m c (Pipeline.arrRef spec0 0) (ix2 r k) : EReal)
      = if h : k.val < 2048 then A (ix2 r ⟨k.val, h⟩) else B (ix2 r ⟨k.val - 2048, by omega⟩) := by
  show V m c main_v2 (ix2 r k) = _
  unfold V
  after_reads_at
  rw [← hA, ← hB]

/-- The second window's array at the region's entry, over the arguments. -/
theorem V1 (c : Dev nD) (i : S4096x4096.Idx) : V m c (Pipeline.arrRef spec0 1) i = m ((c : Thread nD τ).loc main_arg2) i := by
  show V m c main_v3 i = _
  unfold V
  after_reads_at

/-- The third window's array at the region's entry, over the arguments. -/
theorem V2 (c : Dev nD) (i : S8704x4096.Idx) : V m c (Pipeline.arrRef spec0 2) i = m ((c : Thread nD τ).loc main_arg3) i := by
  show V m c main_arg3 i = _
  rw [V_main_arg3]

/-- The kernel's result is the reference's. -/
theorem value : algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1]
  obtain ⟨a0, a1, a2, a3⟩ := hagree c
  rw [a0, a1, a2, a3, out_arr]
  clear h hagree
  clean_types
  funext i
  pointwise
  obtain ⟨r, j, rfl⟩ : ∃ (r : Fin 8704) (j : Fin 4096), i = ix2 r j := ⟨i 0, i 1, by funext a; fin_cases a <;> rfl⟩
  obtain ⟨A, hA⟩ : ∃ A : S8704x2048.Idx → EReal, m ((c.tc : Thread nD τ).loc main_arg0) = A := ⟨_, rfl⟩
  obtain ⟨B, hB⟩ : ∃ B : S8704x2048.Idx → EReal, m ((c.tc : Thread nD τ).loc main_arg1) = B := ⟨_, rfl⟩
  obtain ⟨W, hW⟩ : ∃ W : S4096x4096.Idx → EReal, m ((c.tc : Thread nD τ).loc main_arg2) = W := ⟨_, rfl⟩
  obtain ⟨R, hR⟩ : ∃ R : S8704x4096.Idx → EReal, m ((c.tc : Thread nD τ).loc main_arg3) = R := ⟨_, rfl⟩
  rw [G_at _ _ _ r j _ _ _ (fun k => V0 m c A B hA hB r k) (fun k => (V1 m c (ix2 k j)).trans (congrFun hW _))
    ((V2 m c (ix2 r j)).trans (congrFun hR _))]
  simp only [hA, hB, hW, hR, show ix2 r j 0 = r from rfl, show ix2 r j 1 = j from rfl]
  refine congrArg (fun z : EReal => R (ix2 r j) + z) ?_
  refine Eq.symm ((Fin.sum_univ_add (a := 2048) (b := 2048) _).trans ?_)
  refine congrArg₂ (· + ·) (Finset.sum_congr rfl fun x _ => ?_) (Finset.sum_congr rfl fun x _ => ?_)
  · rw [dif_pos (show (Fin.castAdd 2048 x).val < 2048 from x.isLt)]
    rfl
  · rw [dif_neg (show ¬ (Fin.natAdd 2048 x).val < 2048 from by simp [Fin.natAdd])]
    refine congrArg₂ (· * ·) (congrArg B (congrArg (ix2 r) (Fin.ext ?_))) rfl
    simp [Fin.natAdd]

end Cert.Proof.OutProj

end
-- ==== Proof.MlaDefs.lean ====
module

public import proofs.«01_k».proof.Defs
public import proofs.«01_k».proof.Proof.Gen.Reference6Ideal.Run
public import Idealize.ShloMosaic.Lib.Tactic.ValueTie
public import Idealize.ShloMosaic.Lib.Pipeline.ValueKit
public import Idealize.ShloMosaic.Lib.StableHlo.ReadAt

@[expose] public section

/-! The keys of the attention as the reference computes them. -/

set_option maxRecDepth 200000

noncomputable section

namespace Cert.Proof.MlaPrep

open Cert.Reference6Ideal Cert.Reference6Ideal.Gen Idealize.ShloMosaic Idealize.ShloMosaic.TcCoe Idealize.SL.Sem

/-- The position of a row, as a word: its place in its prompt, or its place after the past. -/
def pw (r : ℕ) : BitVec 32 := if r < 8192 then BitVec.ofNat 32 (r % 2048) else IntOp.addi 16384#32 (BitVec.ofNat 32 ((r - 8192) % 4))

/-- The angle of a row at a frequency. -/
def ang (r d : ℕ) : EReal :=
  FloatOps.sitofp (F := Ideal) FTy.f32 (pw r) * Ideal.pow (Ideal.ofBits FTy.f32 0x461C4000#32)
    (Ideal.div (-FloatOps.sitofp (F := Ideal) FTy.f32 (BitVec.ofNat 32 d)) (Ideal.ofBits FTy.f32 0x42000000#32))

/-- The rotated key at a row and a column. -/
def rot (Z : S8704x5696.Idx → EReal) (r : Fin 8704) (d : Fin 64) : EReal :=
  if d.val < 32 then
    Z (ix2 r (⟨1536 + d.val, by omega⟩ : Fin 5696)) * Ideal.cos (ang r.val d.val)
      - Z (ix2 r (⟨1568 + d.val, by omega⟩ : Fin 5696)) * Ideal.sin (ang r.val d.val)
  else
    Z (ix2 r (⟨1536 + d.val, by omega⟩ : Fin 5696)) * Ideal.cos (ang r.val (d.val - 32))
      + Z (ix2 r (⟨1504 + d.val, by omega⟩ : Fin 5696)) * Ideal.sin (ang r.val (d.val - 32))

/-- The rotated key in the first half of its columns. -/
theorem rot_lo (Z : S8704x5696.Idx → EReal) (r : Fin 8704) (d : Fin 64) (h : d.val < 32) : rot Z r d
    = Z (ix2 r (⟨1536 + d.val, by omega⟩ : Fin 5696)) * Ideal.cos (ang r.val d.val)
      - Z (ix2 r (⟨1568 + d.val, by omega⟩ : Fin 5696)) * Ideal.sin (ang r.val d.val) := if_pos h

/-- The rotated key in the second half of its columns. -/
theorem rot_hi (Z : S8704x5696.Idx → EReal) (r : Fin 8704) (d : Fin 64) (h : ¬ d.val < 32) : rot Z r d
    = Z (ix2 r (⟨1536 + d.val, by omega⟩ : Fin 5696)) * Ideal.cos (ang r.val (d.val - 32))
      + Z (ix2 r (⟨1504 + d.val, by omega⟩ : Fin 5696)) * Ideal.sin (ang r.val (d.val - 32)) := if_neg h

/-- The angle of a prompt's row. -/
theorem ang_lo (r d : ℕ) (h : r < 8192) : ang r d
    = FloatOps.sitofp (F := Ideal) FTy.f32 (BitVec.ofNat 32 (r % 2048)) * Ideal.pow (Ideal.ofBits FTy.f32 0x461C4000#32)
    (Ideal.div (-FloatOps.sitofp (F := Ideal) FTy.f32 (BitVec.ofNat 32 d)) (Ideal.ofBits FTy.f32 0x42000000#32)) := by
  unfold ang pw
  rw [if_pos h]

/-- The angle of a sample's row. -/
theorem ang_hi (r d : ℕ) (h : ¬ r < 8192) : ang r d
    = FloatOps.sitofp (F := Ideal) FTy.f32 (IntOp.addi 16384#32 (BitVec.ofNat 32 ((r - 8192) % 4))) * Ideal.pow (Ideal.ofBits FTy.f32 0x461C4000#32)
    (Ideal.div (-FloatOps.sitofp (F := Ideal) FTy.f32 (BitVec.ofNat 32 d)) (Ideal.ofBits FTy.f32 0x42000000#32)) := by
  unfold ang pw
  rw [if_neg h]

/-- The normed latent at a row and a column. -/
def nrm (Z : S8704x5696.Idx → EReal) (g : S512.Idx → EReal) (r : Fin 8704) (j : Fin 512) : EReal :=
  Z (ix2 r (⟨1024 + j.val, by omega⟩ : Fin 5696))
    * Ideal.rsqrt (Ideal.div (∑ k : Fin 512, Z (ix2 r (⟨1024 + k.val, by omega⟩ : Fin 5696)) * Z (ix2 r (⟨1024 + k.val, by omega⟩ : Fin 5696)))
        (Ideal.ofBits FTy.f32 0x44000000#32) + Ideal.ofBits FTy.f32 0x358637BD#32) * g (ix1 j)

end Cert.Proof.MlaPrep

end
-- ==== Proof.MlaRef.lean ====
module

public import proofs.«01_k».proof.Proof.MlaDefs
public import proofs.«01_k».proof.Defs
public import proofs.«01_k».proof.Proof.Gen.Reference6Ideal.Run
public import Idealize.ShloMosaic.Lib.Tactic.ValueTie
public import Idealize.ShloMosaic.Lib.Pipeline.ValueKit
public import Idealize.ShloMosaic.Lib.StableHlo.ReadAt

@[expose] public section

/-! The keys of the attention as the reference computes them. -/

set_option maxRecDepth 200000

noncomputable section

namespace Cert.Proof.MlaPrep

open Cert.Reference6Ideal Cert.Reference6Ideal.Gen Idealize.ShloMosaic Idealize.ShloMosaic.TcCoe Idealize.SL.Sem

variable (m : (ℓ : Loc nD τ sig) → Buf (Elt Ideal) ℓ)

set_option maxHeartbeats 4000000 in
/-- The reference's rotated key at a prompt's row, in the first half of its columns. -/
theorem ref_kpe_lo_lo (c : Dev nD) (r : Fin 8704) (d : Fin 64) (hr : r.val < 8192) (hd : d.val < 32) :
    @Eq EReal (Value.res_main_v105 m c (ix2 r d)) (rot (m (c, Proc.tc.devRef main_arg0)) r d) := by
  rw [rot_lo _ r d hd, ang_lo _ _ hr]
  unfold Value.res_main_v105
  pointwise
  rw [dif_pos hr, dif_pos hd]
  refine congrArg₂ (fun a b : EReal => a - b) (congrArg₂ (fun a b : EReal => a * b) (congrArg (m (c, Proc.tc.devRef main_arg0)) ?_) rfl)
    (congrArg₂ (fun a b : EReal => a * b) (congrArg (m (c, Proc.tc.devRef main_arg0)) ?_) rfl)
  · exact congrArg₂ ix2 (Fin.ext (by first | rfl | (dsimp only; omega))) (Fin.ext (by first | rfl | (dsimp only; omega)))
  · exact congrArg₂ ix2 (Fin.ext (by first | rfl | (dsimp only; omega))) (Fin.ext (by first | rfl | (dsimp only; omega)))

set_option maxHeartbeats 4000000 in
/-- The reference's rotated key at a prompt's row, in the second half of its columns. -/
theorem ref_kpe_lo_hi (c : Dev nD) (r : Fin 8704) (d : Fin 64) (hr : r.val < 8192) (hd : ¬ d.val < 32) :
    @Eq EReal (Value.res_main_v105 m c (ix2 r d)) (rot (m (c, Proc.tc.devRef main_arg0)) r d) := by
  rw [rot_hi _ r d hd, ang_lo _ _ hr]
  unfold Value.res_main_v105
  pointwise
  rw [dif_pos hr, dif_neg hd]
  refine congrArg₂ (fun a b : EReal => a + b) (congrArg₂ (fun a b : EReal => a * b) (congrArg (m (c, Proc.tc.devRef main_arg0)) ?_) rfl)
    (congrArg₂ (fun a b : EReal => a * b) (congrArg (m (c, Proc.tc.devRef main_arg0)) ?_) rfl)
  · exact congrArg₂ ix2 (Fin.ext (by first | rfl | (dsimp only; omega))) (Fin.ext (by first | rfl | (dsimp only; omega)))
  · exact congrArg₂ ix2 (Fin.ext (by first | rfl | (dsimp only; omega))) (Fin.ext (by first | rfl | (dsimp only; omega)))

set_option maxHeartbeats 4000000 in
/-- The reference's rotated key at a sample's row, in the first half of its columns. -/
theorem ref_kpe_hi_lo (c : Dev nD) (r : Fin 8704) (d : Fin 64) (hr : ¬ r.val < 8192) (hd : d.val < 32) :
    @Eq EReal (Value.res_main_v105 m c (ix2 r d)) (rot (m (c, Proc.tc.devRef main_arg0)) r d) := by
  rw [rot_lo _ r d hd, ang_hi _ _ hr]
  unfold Value.res_main_v105
  pointwise
  rw [dif_neg hr, dif_pos hd]
  refine congrArg₂ (fun a b : EReal => a - b) (congrArg₂ (fun a b : EReal => a * b) (congrArg (m (c, Proc.tc.devRef main_arg0)) ?_) rfl)
    (congrArg₂ (fun a b : EReal => a * b) (congrArg (m (c, Proc.tc.devRef main_arg0)) ?_) rfl)
  · exact congrArg₂ ix2 (Fin.ext (by first | rfl | (dsimp only; omega))) (Fin.ext (by first | rfl | (dsimp only; omega)))
  · exact congrArg₂ ix2 (Fin.ext (by first | rfl | (dsimp only; omega))) (Fin.ext (by first | rfl | (dsimp only; omega)))

set_option maxHeartbeats 4000000 in
/-- The reference's rotated key at a sample's row, in the second half of its columns. -/
theorem ref_kpe_hi_hi (c : Dev nD) (r : Fin 8704) (d : Fin 64) (hr : ¬ r.val < 8192) (hd : ¬ d.val < 32) :
    @Eq EReal (Value.res_main_v105 m c (ix2 r d)) (rot (m (c, Proc.tc.devRef main_arg0)) r d) := by
  rw [rot_hi _ r d hd, ang_hi _ _ hr]
  unfold Value.res_main_v105
  pointwise
  rw [dif_neg hr, dif_neg hd]
  refine congrArg₂ (fun a b : EReal => a + b) (congrArg₂ (fun a b : EReal => a * b) (congrArg (m (c, Proc.tc.devRef main_arg0)) ?_) rfl)
    (congrArg₂ (fun a b : EReal => a * b) (congrArg (m (c, Proc.tc.devRef main_arg0)) ?_) rfl)
  · exact congrArg₂ ix2 (Fin.ext (by first | rfl | (dsimp only; omega))) (Fin.ext (by first | rfl | (dsimp only; omega)))
  · exact congrArg₂ ix2 (Fin.ext (by first | rfl | (dsimp only; omega))) (Fin.ext (by first | rfl | (dsimp only; omega)))

/-- The reference's rotated key. -/
theorem ref_kpe (c : Dev nD) (r : Fin 8704) (d : Fin 64) :
    @Eq EReal (Value.res_main_v105 m c (ix2 r d)) (rot (m (c, Proc.tc.devRef main_arg0)) r d) := by
  by_cases hr : r.val < 8192
  · by_cases hd : d.val < 32
    · exact ref_kpe_lo_lo m c r d hr hd
    · exact ref_kpe_lo_hi m c r d hr hd
  · by_cases hd : d.val < 32
    · exact ref_kpe_hi_lo m c r d hr hd
    · exact ref_kpe_hi_hi m c r d hr hd

end Cert.Proof.MlaPrep

end
-- ==== Proof.MlaPrep.lean ====
module

public import proofs.«01_k».proof.Defs
public import proofs.«01_k».proof.Proof.Gen.Kernel6Ideal.Value
public import proofs.«01_k».proof.Proof.MlaRef
public import Idealize.ShloMosaic.Lib.Claim
public import Idealize.ShloMosaic.Lib.Tactic.ValueTie
public import Idealize.ShloMosaic.Lib.Pipeline.ValueKit
public import Idealize.ShloMosaic.Lib.StableHlo.ReadAt

@[expose] public section

/-! The keys of the attention: the normed latent and the rotated key, one block of rows per grid point. -/

set_option maxRecDepth 16384

noncomputable section

namespace Cert.Proof.MlaPrep

open Cert.Kernel6Ideal Cert.Kernel6Ideal.Gen Idealize.ShloMosaic Idealize.ShloMosaic.TcCoe Idealize.SL.Sem

variable (m : (ℓ : Loc nD τ sig) → Buf (Elt Ideal) ℓ)

/-- Where each window's block sits. -/
theorem idx (t : Fin cfg0.N) : win0_1.index t (0 : Fin 2) = t.val ∧ win0_1.index t (1 : Fin 2) = 2 ∧ win0_2.index t (0 : Fin 2) = t.val ∧ win0_2.index t (1 : Fin 2) = 12
    ∧ win0_3.index t (0 : Fin 2) = t.val ∧ win0_3.index t (1 : Fin 2) = 0 ∧ win0_4.index t (0 : Fin 2) = t.val ∧ win0_4.index t (1 : Fin 2) = 0
    ∧ win0_6.index t (0 : Fin 2) = 0 ∧ win0_6.index t (1 : Fin 2) = 0 ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, win0_1.index t (0 : Fin 2) = t.val ∧ win0_1.index t (1 : Fin 2) = 2 ∧ win0_2.index t (0 : Fin 2) = t.val ∧ win0_2.index t (1 : Fin 2) = 12
    ∧ win0_3.index t (0 : Fin 2) = t.val ∧ win0_3.index t (1 : Fin 2) = 0 ∧ win0_4.index t (0 : Fin 2) = t.val ∧ win0_4.index t (1 : Fin 2) = 0
    ∧ win0_6.index t (0 : Fin 2) = 0 ∧ win0_6.index t (1 : Fin 2) = 0 ∧ win0_11.index t (0 : Fin 2) = t.val ∧ win0_11.index t (1 : Fin 2) = 0
    ∧ win0_12.index t (0 : Fin 2) = t.val ∧ win0_12.index t (1 : Fin 2) = 0) t

/-- The number of grid points. -/
theorem N_eq : cfg0.N = 34 := N_0

/-- The normed latent's block. -/
theorem pay1_at (X : S256x512.Idx → EReal) (g : S1x512.Idx → EReal) (r : Fin 256) (j : Fin 512) :
    (k0_pay1 (F := Ideal) (k0_pay120 (F := Ideal) X) (k0_pay121 (F := Ideal) X) g (ix2 r j) : EReal)
      = X (ix2 r j) * Ideal.rsqrt (Ideal.div (∑ k : Fin 512, X (ix2 r k) * X (ix2 r k)) (Ideal.ofBits FTy.f32 0x44000000#32) + Ideal.ofBits FTy.f32 0x358637BD#32)
        * g (ix2 0 j) := by
  unfold k0_pay1 k0_pay121 k0_pay120
  pointwise
  try rfl

/-- The rotated key's block. -/
theorem pay3_at (C S X : S256x128.Idx → EReal) (r : Fin 256) (d : Fin 64) :
    (k0_pay3 (F := Ideal) (k0_pay6 (F := Ideal) C) (k0_pay7 (F := Ideal) S) X (ix2 r d) : EReal)
      = X (ix2 r ⟨d.val, by omega⟩) * C (ix2 r ⟨d.val, by omega⟩) + X (ix2 r ⟨(d.val + 128 - 32) % 128, by omega⟩) * S (ix2 r ⟨d.val, by omega⟩) := by
  unfold k0_pay3 k0_pay2 k0_pay6 k0_pay7
  pointwise

/-- What a grid point leaves in the latent's block. -/
theorem ob1 (c : Dev nD) (t : Fin cfg0.N) (y : S256x512.Idx) : (outsAt0 m c t).2.1 y
    = k0_pay1 (F := Ideal) (k0_pay120 (F := Ideal) (iblk m c 1 t)) (k0_pay121 (F := Ideal) (iblk m c 1 t)) (iblk m c 6 t) y := by
  unfold outsAt0
  dsimp only
  frame_out

/-- What a grid point leaves in the rotated key's block. -/
theorem ob2 (c : Dev nD) (t : Fin cfg0.N) (y : S256x64.Idx) : (outsAt0 m c t).2.2.1 y
    = k0_pay3 (F := Ideal) (k0_pay6 (F := Ideal) (iblk m c 3 t)) (k0_pay7 (F := Ideal) (iblk m c 4 t)) (iblk m c 2 t) y := by
  unfold outsAt0
  dsimp only
  frame_out

/-- The projected columns at the region's entry, over the argument. -/
theorem VZ (c : Dev nD) (Z : S8704x5696.Idx → EReal) (hZ : m ((c : Thread nD τ).loc main_arg0) = Z) (r : Fin 8704) (j : Fin 6144) (hj : j.val < 1664) :
    (V m c main_v5 (ix2 r j) : EReal) = Z (ix2 r (⟨if j.val < 1600 then j.val else j.val - 64, by split <;> omega⟩ : Fin 5696)) := by
  unfold V
  after_reads_at
  after_reads_at
  have hZ' : m (c, Proc.tc.devRef main_arg0) = Z := hZ
  simp only [hZ']
  by_cases h1 : j.val < 1536
  · simp (disch := omega) only [dif_pos, if_pos]
  by_cases h2 : j.val < 1600
  · simp (disch := omega) only [dif_pos, dif_neg, if_pos, show 1536 + (j.val - 1536) = j.val by omega]
  · simp (disch := omega) only [dif_pos, dif_neg, if_neg, show 1536 + (j.val - 1536 - 64) = j.val - 64 by omega]

/-- The prompts' positions, as the host builds them. -/
theorem h9 (c : Dev nD) (x : Fin 8192) : (StableHlo.upto hostOps0 (fun b => m (c, b)) 18 (Proc.devRef .tc main_v9) (ix1 x) : BitVec 32) = BitVec.ofNat 32 (x.val % 2048) := by
  show (StableHlo.after (hostOps0.take 18) (fun b => m (c, b)) (Proc.devRef .tc main_v9) (ix1 x) : BitVec 32) = _
  simp only [hostOps0, List.take_succ_cons, List.take_zero]
  after_reads_at

/-- The samples' positions, as the host builds them. -/
theorem h15 (c : Dev nD) (x : Fin 512) : (StableHlo.upto hostOps0 (fun b => m (c, b)) 18 (Proc.devRef .tc main_v15) (ix1 x) : BitVec 32)
    = IntOp.addi 16384#32 (BitVec.ofNat 32 (x.val % 4)) := by
  show (StableHlo.after (hostOps0.take 18) (fun b => m (c, b)) (Proc.devRef .tc main_v15) (ix1 x) : BitVec 32) = _
  simp only [hostOps0, List.take_succ_cons, List.take_zero]
  after_reads_at

/-- The table of the cosines, in the first half of its columns. -/
theorem VC_lo (c : Dev nD) (r : Fin 8704) (j : Fin 128) (hj : j.val < 64) (h1 : j.val < 32) :
    @Eq EReal (V m c main_v32 (ix2 r j)) (Ideal.cos (ang r.val j.val)) := by
  unfold V
  after_reads_at
  rw [dif_pos h1]
  after_reads_at
  by_cases hr : r.val < 8192
  · rw [dif_pos hr, h9, ang_lo _ _ hr]
  · rw [dif_neg hr, h15, ang_hi _ _ hr]

/-- The table of the cosines, in the second half of its columns. -/
theorem VC_hi (c : Dev nD) (r : Fin 8704) (j : Fin 128) (hj : j.val < 64) (h1 : ¬ j.val < 32) :
    @Eq EReal (V m c main_v32 (ix2 r j)) (Ideal.cos (ang r.val (j.val - 32))) := by
  unfold V
  after_reads_at
  rw [dif_neg h1, dif_pos (by omega)]
  after_reads_at
  by_cases hr : r.val < 8192
  · rw [dif_pos hr, h9, ang_lo _ _ hr]
  · rw [dif_neg hr, h15, ang_hi _ _ hr]

/-- The table of the sines, in the first half of its columns. -/
theorem VS_lo (c : Dev nD) (r : Fin 8704) (j : Fin 128) (hj : j.val < 64) (h1 : j.val < 32) :
    @Eq EReal (V m c main_v34 (ix2 r j)) (-Ideal.sin (ang r.val j.val)) := by
  unfold V
  after_reads_at
  rw [dif_pos h1]
  after_reads_at
  by_cases hr : r.val < 8192
  · rw [dif_pos hr, h9, ang_lo _ _ hr]
  · rw [dif_neg hr, h15, ang_hi _ _ hr]

/-- The table of the sines, in the second half of its columns. -/
theorem VS_hi (c : Dev nD) (r : Fin 8704) (j : Fin 128) (hj : j.val < 64) (h1 : ¬ j.val < 32) :
    @Eq EReal (V m c main_v34 (ix2 r j)) (Ideal.sin (ang r.val (j.val - 32))) := by
  unfold V
  after_reads_at
  rw [dif_neg h1, dif_pos (by omega)]
  after_reads_at
  by_cases hr : r.val < 8192
  · rw [dif_pos hr, h9, ang_lo _ _ hr]
  · rw [dif_neg hr, h15, ang_hi _ _ hr]

/-- The latent's scale at the region's entry, over the argument. -/
theorem Vg (c : Dev nD) (j : Fin 512) : @Eq EReal (V m c main_v46 (ix2 0 j)) (m (c, Proc.devRef .tc main_arg2) (ix1 j)) := by
  unfold V
  after_reads_at

/-- What the latent's array holds. -/
def outA (c : Dev nD) (i : S8704x512.Idx) : EReal := nrm (m (c, Proc.devRef .tc main_arg0)) (m (c, Proc.devRef .tc main_arg2)) (i 0) (i 1)

/-- What the rotated key's array holds. -/
def outB (c : Dev nD) (i : S8704x64.Idx) : EReal := rot (m (c, Proc.devRef .tc main_arg0)) (i 0) (i 1)

/-- The row of the arrays that a row of a grid point's block is. -/
def row (t : Fin cfg0.N) (r : Fin 256) : Fin 8704 := ⟨256 * t.val + r.val, by have := t.isLt; have := N_eq; omega⟩

/-- The latent's block of the projection. -/
theorem b1 (c : Dev nD) (t : Fin cfg0.N) (r : Fin 256) (j : Fin 512) : @Eq EReal (iblk m c 1 t (ix2 r j))
    (m (c, Proc.devRef .tc main_arg0) (ix2 (row t r) (⟨1024 + j.val, by omega⟩ : Fin 5696))) := by
  have h : iblk m c 1 t (ix2 r j) = V m c main_v5 (ix2 (row t r) (⟨1024 + j.val, by omega⟩ : Fin 6144)) := by
    show V m c main_v5 _ = V m c main_v5 _
    blk_ext [iblk, idx t, row]
  refine (show @Eq EReal _ _ from h).trans ((VZ m c _ rfl (row t r) ⟨1024 + j.val, by omega⟩ (by dsimp only; omega)).trans ?_)
  refine congrArg (m (c, Proc.devRef .tc main_arg0)) (congrArg₂ ix2 rfl (Fin.ext ?_))
  dsimp only
  rw [if_pos (by omega)]

/-- The rotated key's block of the projection. -/
theorem b2 (c : Dev nD) (t : Fin cfg0.N) (r : Fin 256) (j : Fin 128) : @Eq EReal (iblk m c 2 t (ix2 r j))
    (m (c, Proc.devRef .tc main_arg0) (ix2 (row t r) (⟨if j.val < 64 then 1536 + j.val else 1472 + j.val, by split <;> omega⟩ : Fin 5696))) := by
  have h : iblk m c 2 t (ix2 r j) = V m c main_v5 (ix2 (row t r) (⟨1536 + j.val, by omega⟩ : Fin 6144)) := by
    show V m c main_v5 _ = V m c main_v5 _
    blk_ext [iblk, idx t, row]
  refine (show @Eq EReal _ _ from h).trans ((VZ m c _ rfl (row t r) ⟨1536 + j.val, by omega⟩ (by dsimp only; omega)).trans ?_)
  refine congrArg (m (c, Proc.devRef .tc main_arg0)) (congrArg₂ ix2 rfl (Fin.ext ?_))
  dsimp only
  split <;> split <;> omega

/-- The cosines' block. -/
theorem b3 (c : Dev nD) (t : Fin cfg0.N) (r : Fin 256) (j : Fin 128) : iblk m c 3 t (ix2 r j) = V m c main_v32 (ix2 (row t r) j) := by
  show V m c main_v32 _ = V m c main_v32 _
  blk_ext [iblk, idx t, row]

/-- The sines' block. -/
theorem b4 (c : Dev nD) (t : Fin cfg0.N) (r : Fin 256) (j : Fin 128) : iblk m c 4 t (ix2 r j) = V m c main_v34 (ix2 (row t r) j) := by
  show V m c main_v34 _ = V m c main_v34 _
  blk_ext [iblk, idx t, row]

/-- The scale's block. -/
theorem b6 (c : Dev nD) (t : Fin cfg0.N) (j : Fin 512) : @Eq EReal (iblk m c 6 t (ix2 0 j)) (m (c, Proc.devRef .tc main_arg2) (ix1 j)) := by
  have h : iblk m c 6 t (ix2 0 j) = V m c main_v46 (ix2 0 j) := by
    show V m c main_v46 _ = V m c main_v46 _
    blk_ext [iblk, idx t]
  exact (show @Eq EReal _ _ from h).trans (Vg m c j)

/-- The latent's array after the run. -/
theorem out_arr11 (c : Dev nD) : (dats m 0 c).arrAt 11 cfg0.N = outA m c := by
  refine (dats m 0 c).arrAt_eq_of_covers 11 _ (by decide +kernel) fun t hf y => ?_
  blk_simp
  rw [after0_11]
  refine (ob1 m c t y).trans ?_
  obtain ⟨r, j, hy⟩ : ∃ (r : Fin 256) (j : Fin 512), y = ix2 r j := ⟨y 0, y 1, by funext a; fin_cases a <;> rfl⟩
  have e0 : (((win0_11.blk t).view.emb y) 0 : Fin 8704) = row t r := by
    refine Fin.ext ?_
    show win0_11.index t (0 : Fin 2) * 256 + 1 * (y 0).val = 256 * t.val + r.val
    rw [(idx t).2.2.2.2.2.2.2.2.2.2.1, hy]
    show t.val * 256 + 1 * r.val = _
    omega
  have e1 : (((win0_11.blk t).view.emb y) 1 : Fin 512) = j := by
    refine Fin.ext ?_
    show win0_11.index t (1 : Fin 2) * 512 + 1 * (y 1).val = j.val
    rw [(idx t).2.2.2.2.2.2.2.2.2.2.2.1, hy]
    show 0 * 512 + 1 * j.val = _
    omega
  have hA : ∀ i, outA m c i = nrm (m (c, Proc.devRef .tc main_arg0)) (m (c, Proc.devRef .tc main_arg2)) (i 0) (i 1) := fun _ => rfl
  rw [hy] at e0 e1 ⊢
  refine (pay1_at _ _ r j).trans (Eq.trans ?_ (hA _).symm)
  rw [e0, e1]
  unfold nrm
  simp only [b1, b6]

/-- The rotated key's array after the run. -/
theorem out_arr12 (c : Dev nD) : (dats m 0 c).arrAt 12 cfg0.N = outB m c := by
  refine (dats m 0 c).arrAt_eq_of_covers 12 _ (by decide +kernel) fun t hf y => ?_
  blk_simp
  rw [after0_12]
  refine (ob2 m c t y).trans ?_
  obtain ⟨r, j, hy⟩ : ∃ (r : Fin 256) (j : Fin 64), y = ix2 r j := ⟨y 0, y 1, by funext a; fin_cases a <;> rfl⟩
  have e0 : (((win0_12.blk t).view.emb y) 0 : Fin 8704) = row t r := by
    refine Fin.ext ?_
    show win0_12.index t (0 : Fin 2) * 256 + 1 * (y 0).val = 256 * t.val + r.val
    rw [(idx t).2.2.2.2.2.2.2.2.2.2.2.2.1, hy]
    show t.val * 256 + 1 * r.val = _
    omega
  have e1 : (((win0_12.blk t).view.emb y) 1 : Fin 64) = j := by
    refine Fin.ext ?_
    show win0_12.index t (1 : Fin 2) * 64 + 1 * (y 1).val = j.val
    rw [(idx t).2.2.2.2.2.2.2.2.2.2.2.2.2, hy]
    show 0 * 64 + 1 * j.val = _
    omega
  have hA : ∀ i, outB m c i = rot (m (c, Proc.devRef .tc main_arg0)) (i 0) (i 1) := fun _ => rfl
  rw [hy] at e0 e1 ⊢
  refine (pay3_at _ _ _ r j).trans (Eq.trans ?_ (hA _).symm)
  rw [e0, e1, b2, b2, b3, b4]
  by_cases h1 : j.val < 32
  · rw [rot_lo _ _ _ h1, VC_lo m c _ ⟨j.val, by omega⟩ j.isLt h1, VS_lo m c _ ⟨j.val, by omega⟩ j.isLt h1, mul_neg, ← sub_eq_add_neg]
    refine congrArg₂ (fun a b : EReal => a - b) (congrArg₂ (fun a b : EReal => a * b) (congrArg (m (c, Proc.devRef .tc main_arg0)) ?_) rfl)
      (congrArg₂ (fun a b : EReal => a * b) (congrArg (m (c, Proc.devRef .tc main_arg0)) ?_) rfl)
    · refine congrArg₂ ix2 rfl (Fin.ext ?_)
      dsimp only
      split <;> omega
    · refine congrArg₂ ix2 rfl (Fin.ext ?_)
      dsimp only
      split <;> omega
  · rw [rot_hi _ _ _ h1, VC_hi m c _ ⟨j.val, by omega⟩ j.isLt h1, VS_hi m c _ ⟨j.val, by omega⟩ j.isLt h1]
    refine congrArg₂ (fun a b : EReal => a + b) (congrArg₂ (fun a b : EReal => a * b) (congrArg (m (c, Proc.devRef .tc main_arg0)) ?_) rfl)
      (congrArg₂ (fun a b : EReal => a * b) (congrArg (m (c, Proc.devRef .tc main_arg0)) ?_) rfl)
    · refine congrArg₂ ix2 rfl (Fin.ext ?_)
      dsimp only
      split <;> omega
    · refine congrArg₂ ix2 rfl (Fin.ext ?_)
      dsimp only
      split <;> omega

set_option maxRecDepth 200000 in
set_option maxHeartbeats 4000000 in
/-- The kernel's results are the reference's. -/
theorem value : algebraic_Kernel6Ideal_Reference6Ideal := by
  intro m ρ m' ρ' _ hagree
  refine ⟨_, _, (θ_run Cert.Kernel6Ideal.defs _ _).mono (fun r h c => ⟨(h c).2.1, (h c).2.2.1, (h c).2.2.2.2⟩)
    (Cert.Kernel6Ideal.Value.run_blocks (F := Ideal) m ρ), ?_⟩
  refine (θ_run Cert.Reference6Ideal.defs _ _).mono (fun _ h c => ⟨?_, ?_, (h c).2.2⟩) (Cert.Reference6Ideal.Value.run (F := Ideal) m' ρ')
  · rw [(h c).1]
    obtain ⟨a0, a1, a2, a3, a4⟩ := hagree c
    rw [a0, a2, out_arr11]
    clear h hagree
    clean_types
    funext i
    obtain ⟨r, j, rfl⟩ : ∃ (r : Fin 8704) (j : Fin 512), i = ix2 r j := ⟨i 0, i 1, by funext a; fin_cases a <;> rfl⟩
    have hA : outA m c (ix2 r j) = nrm (m (c, Proc.devRef .tc main_arg0)) (m (c, Proc.devRef .tc main_arg2)) r j := rfl
    refine Eq.trans ?_ hA.symm
    pointwise
    by_cases hr : r.val < 8192
    · rw [dif_pos hr]
      exact congrArg (fun q => nrm (m (c, Proc.devRef .tc main_arg0)) (m (c, Proc.devRef .tc main_arg2)) q j)
        (Fin.ext (by dsimp only; omega) : (⟨r.val / 2048 * 2048 + r.val % 2048, by omega⟩ : Fin 8704) = r)
    · rw [dif_neg hr]
      exact congrArg (fun q => nrm (m (c, Proc.devRef .tc main_arg0)) (m (c, Proc.devRef .tc main_arg2)) q j)
        (Fin.ext (by dsimp only; omega) : (⟨8192 + ((r.val - 8192) / 4 * 4 + (r.val - 8192) % 4), by omega⟩ : Fin 8704) = r)
  · rw [(h c).2.1]
    obtain ⟨a0, a1, a2, a3, a4⟩ := hagree c
    rw [out_arr12]
    funext i
    obtain ⟨r, j, rfl⟩ : ∃ (r : Fin 8704) (j : Fin 64), i = ix2 r j := ⟨i 0, i 1, by funext a; fin_cases a <;> rfl⟩
    have hA : outB m c (ix2 r j) = rot (m (c, Proc.devRef .tc main_arg0)) r j := rfl
    refine Eq.trans (ref_kpe m' c r j) (Eq.trans ?_ hA.symm)
    exact congrArg (fun Z => rot Z r j) a0

end Cert.Proof.MlaPrep

end
-- ==== Proof.NormPrompt.lean ====
module

public import proofs.«01_k».proof.Defs
public import proofs.«01_k».proof.Proof.Gen.Kernel7Ideal.Value
public import proofs.«01_k».proof.Proof.Gen.Reference7Ideal.Run
public import Idealize.ShloMosaic.Lib.Tactic.ValueTie
public import Idealize.ShloMosaic.Lib.Pipeline.ValueKit
public import Idealize.ShloMosaic.Lib.StableHlo.ReadAt
public import Idealize.ShloMosaic.Lib.Claim

@[expose] public section

/-! The final normalisation of the prompt rows: one block of rows per grid point. -/

set_option maxRecDepth 16384

noncomputable section

namespace Cert.Proof.NormPrompt

open Cert.Kernel7Ideal Cert.Kernel7Ideal.Gen Idealize.ShloMosaic Idealize.ShloMosaic.TcCoe Idealize.SL.Sem

variable (m : (ℓ : Loc nD τ sig) → Buf (Elt Ideal) ℓ)

/-- Where each window's block sits, over the output's. -/
theorem idx (t : Fin cfg0.N) : win0_0.index t (0 : Fin 2) = win0_2.index t (0 : Fin 2) + 0 ∧ win0_0.index t (1 : Fin 2) = win0_2.index t (1 : Fin 2)
    ∧ win0_1.index t (0 : Fin 2) = 0 ∧ win0_1.index t (1 : Fin 2) = win0_2.index t (1 : Fin 2) ∧ win0_2.index t (1 : Fin 2) = 0 :=
  (by decide +kernel : ∀ t : Fin grid0.N, win0_0.index t (0 : Fin 2) = win0_2.index t (0 : Fin 2) + 0 ∧ win0_0.index t (1 : Fin 2) = win0_2.index t (1 : Fin 2)
    ∧ win0_1.index t (0 : Fin 2) = 0 ∧ win0_1.index t (1 : Fin 2) = win0_2.index t (1 : Fin 2) ∧ win0_2.index t (1 : Fin 2) = 0) t

/-- The argument's row of a result's row. -/
def up (r : Fin 8192) : Fin 8704 := ⟨r.val, by omega⟩

/-- What the output array holds at an index: the row of `X`, over the root of its mean square, scaled by `g`. -/
def G (X : S8704x4096.Idx → EReal) (g : S1x4096.Idx → EReal) (i : S8192x4096.Idx) : EReal :=
  X (ix2 (up (i 0)) (i 1)) * Ideal.rsqrt (Ideal.div (∑ k : Fin 4096, X (ix2 (up (i 0)) k) * X (ix2 (up (i 0)) k))
        (Ideal.ofBits FTy.f32 0x45800000#32) + Ideal.ofBits FTy.f32 0x358637BD#32) * g (ix2 0 (i 1))

/-- The same at a row and a column, over the scale there. -/
theorem G_at (X : S8704x4096.Idx → EReal) (g : S1x4096.Idx → EReal) (r : Fin 8192) (j : Fin 4096) (a : EReal) (ha : g (ix2 0 j) = a) :
    G X g (ix2 r j) = X (ix2 (up r) j) * Ideal.rsqrt (Ideal.div (∑ k : Fin 4096, X (ix2 (up r) k) * X (ix2 (up r) k))
        (Ideal.ofBits FTy.f32 0x45800000#32) + Ideal.ofBits FTy.f32 0x358637BD#32) * a := by
  rw [← ha]
  rfl

/-- The output array after the run is that function of the entry arrays. -/
theorem out_arr (c : Dev nD) : (dats m 0 c).arrAt 2 cfg0.N
    = G (V m c (Pipeline.arrRef spec0 0)) (V m c (Pipeline.arrRef spec0 1)) := by
  refine (dats m 0 c).arrAt_eq_of_covers 2 _ (by decide +kernel) fun t hf y => ?_
  blk_simp
  rw [after0_2]
  frame_out
  unfold k0_pay1
  pointwise
  have h0 : ∀ k, iblk m c 0 t (ix2 (y 0) k)
      = V m c (Pipeline.arrRef spec0 0) (ix2 (up ((((View.whole main_v1).slice (win0_2.rect t)).emb y) 0)) k) := fun k => by
    blk_ext [iblk, idx t, up]
  have h2 : iblk m c 0 t y
      = V m c (Pipeline.arrRef spec0 0) (ix2 (up ((((View.whole main_v1).slice (win0_2.rect t)).emb y) 0)) ((((View.whole main_v1).slice (win0_2.rect t)).emb y) 1)) := by
    blk_ext [iblk, idx t, up]
  have h1 : iblk m c 1 t (ix2 0 (y 1))
      = V m c (Pipeline.arrRef spec0 1) (ix2 0 ((((View.whole main_v1).slice (win0_2.rect t)).emb y) 1)) := by
    blk_ext [iblk, idx t]
  simp only [h0, h1, h2]
  rfl

/-- The first window's array at the region's entry, over the arguments. -/
theorem V0 (c : Dev nD) : V m c (Pipeline.arrRef spec0 0) = m ((c : Thread nD τ).loc main_arg0) := by
  show V m c main_arg0 = _
  rw [V_main_arg0]

/-- The second window's array at the region's entry, over the arguments. -/
theorem V1 (c : Dev nD) (j : Fin 4096) : V m c (Pipeline.arrRef spec0 1) (ix2 0 j) = m ((c : Thread nD τ).loc main_arg1) (ix1 j) := by
  show V m c main_v0 (ix2 0 j) = _
  unfold V
  after_reads_at

/-- The kernel's result is the reference's. -/
theorem value : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  obtain ⟨a0, a1⟩ := hagree c
  rw [a0, a1, out_arr, V0 m c]
  clear h hagree
  clean_types
  funext i
  pointwise
  obtain ⟨r, j, rfl⟩ : ∃ (r : Fin 8192) (j : Fin 4096), i = ix2 r j := ⟨i 0, i 1, by funext a; fin_cases a <;> rfl⟩
  rw [G_at _ _ r j _ (V1 m c j)]
  rfl

end Cert.Proof.NormPrompt

end
-- ==== Proof.NormSample.lean ====
module

public import proofs.«01_k».proof.Defs
public import proofs.«01_k».proof.Proof.Gen.Kernel8Ideal.Value
public import proofs.«01_k».proof.Proof.Gen.Reference8Ideal.Run
public import Idealize.ShloMosaic.Lib.Tactic.ValueTie
public import Idealize.ShloMosaic.Lib.Pipeline.ValueKit
public import Idealize.ShloMosaic.Lib.StableHlo.ReadAt
public import Idealize.ShloMosaic.Lib.Claim

@[expose] public section

/-! The final normalisation of the sampled rows: one block. -/

set_option maxRecDepth 16384

noncomputable section

namespace Cert.Proof.NormSample

open Cert.Kernel8Ideal Cert.Kernel8Ideal.Gen Idealize.ShloMosaic Idealize.ShloMosaic.TcCoe Idealize.SL.Sem

variable (m : (ℓ : Loc nD τ sig) → Buf (Elt Ideal) ℓ)

/-- Where each window's block sits, over the output's. -/
theorem idx (t : Fin cfg0.N) : win0_0.index t (0 : Fin 2) = win0_2.index t (0 : Fin 2) + 16 ∧ win0_0.index t (1 : Fin 2) = win0_2.index t (1 : Fin 2)
    ∧ win0_1.index t (0 : Fin 2) = 0 ∧ win0_1.index t (1 : Fin 2) = win0_2.index t (1 : Fin 2) ∧ win0_2.index t (1 : Fin 2) = 0 :=
  (by decide +kernel : ∀ t : Fin grid0.N, win0_0.index t (0 : Fin 2) = win0_2.index t (0 : Fin 2) + 16 ∧ win0_0.index t (1 : Fin 2) = win0_2.index t (1 : Fin 2)
    ∧ win0_1.index t (0 : Fin 2) = 0 ∧ win0_1.index t (1 : Fin 2) = win0_2.index t (1 : Fin 2) ∧ win0_2.index t (1 : Fin 2) = 0) t

/-- The argument's row of a result's row. -/
def up (r : Fin 512) : Fin 8704 := ⟨8192 + r.val, by omega⟩

/-- What the output array holds at an index: the row of `X`, over the root of its mean square, scaled by `g`. -/
def G (X : S8704x4096.Idx → EReal) (g : S1x4096.Idx → EReal) (i : S512x4096.Idx) : EReal :=
  X (ix2 (up (i 0)) (i 1)) * Ideal.rsqrt (Ideal.div (∑ k : Fin 4096, X (ix2 (up (i 0)) k) * X (ix2 (up (i 0)) k))
        (Ideal.ofBits FTy.f32 0x45800000#32) + Ideal.ofBits FTy.f32 0x358637BD#32) * g (ix2 0 (i 1))

/-- The same at a row and a column, over the scale there. -/
theorem G_at (X : S8704x4096.Idx → EReal) (g : S1x4096.Idx → EReal) (r : Fin 512) (j : Fin 4096) (a : EReal) (ha : g (ix2 0 j) = a) :
    G X g (ix2 r j) = X (ix2 (up r) j) * Ideal.rsqrt (Ideal.div (∑ k : Fin 4096, X (ix2 (up r) k) * X (ix2 (up r) k))
        (Ideal.ofBits FTy.f32 0x45800000#32) + Ideal.ofBits FTy.f32 0x358637BD#32) * a := by
  rw [← ha]
  rfl

/-- The output array after the run is that function of the entry arrays. -/
theorem out_arr (c : Dev nD) : (dats m 0 c).arrAt 2 cfg0.N
    = G (V m c (Pipeline.arrRef spec0 0)) (V m c (Pipeline.arrRef spec0 1)) := by
  refine (dats m 0 c).arrAt_eq_of_covers 2 _ (by decide +kernel) fun t hf y => ?_
  blk_simp
  rw [after0_2]
  frame_out
  unfold k0_pay1
  pointwise
  have h0 : ∀ k, iblk m c 0 t (ix2 (y 0) k)
      = V m c (Pipeline.arrRef spec0 0) (ix2 (up ((((View.whole main_v1).slice (win0_2.rect t)).emb y) 0)) k) := fun k => by
    blk_ext [iblk, idx t, up]
  have h2 : iblk m c 0 t y
      = V m c (Pipeline.arrRef spec0 0) (ix2 (up ((((View.whole main_v1).slice (win0_2.rect t)).emb y) 0)) ((((View.whole main_v1).slice (win0_2.rect t)).emb y) 1)) := by
    blk_ext [iblk, idx t, up]
  have h1 : iblk m c 1 t (ix2 0 (y 1))
      = V m c (Pipeline.arrRef spec0 1) (ix2 0 ((((View.whole main_v1).slice (win0_2.rect t)).emb y) 1)) := by
    blk_ext [iblk, idx t]
  simp only [h0, h1, h2]
  rfl

/-- The first window's array at the region's entry, over the arguments. -/
theorem V0 (c : Dev nD) : V m c (Pipeline.arrRef spec0 0) = m ((c : Thread nD τ).loc main_arg0) := by
  show V m c main_arg0 = _
  rw [V_main_arg0]

/-- The second window's array at the region's entry, over the arguments. -/
theorem V1 (c : Dev nD) (j : Fin 4096) : V m c (Pipeline.arrRef spec0 1) (ix2 0 j) = m ((c : Thread nD τ).loc main_arg1) (ix1 j) := by
  show V m c main_v0 (ix2 0 j) = _
  unfold V
  after_reads_at

/-- The kernel's result is the reference's. -/
theorem value : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  obtain ⟨a0, a1⟩ := hagree c
  rw [a0, a1, out_arr, V0 m c]
  clear h hagree
  clean_types
  funext i
  pointwise
  obtain ⟨r, j, rfl⟩ : ∃ (r : Fin 512) (j : Fin 4096), i = ix2 r j := ⟨i 0, i 1, by funext a; fin_cases a <;> rfl⟩
  rw [G_at _ _ r j _ (V1 m c j)]
  rfl

end Cert.Proof.NormSample

end
-- ==== Proof.RnnDefs.lean ====
module

public import proofs.«01_k».proof.Proof.AttnMath

@[expose] public section

/-! The recurrence's steps on the samples, one channel at a time: what both programs compute. -/

noncomputable section

namespace Cert.Proof.RnnSample

open Idealize.ShloMosaic

/-- The convolution's bias plus its sum of four products. -/
def conv4 (b x0 x1 x2 x3 w0 w1 w2 w3 : EReal) : EReal := b + (x0 * w0 + x1 * w1 + x2 * w2 + x3 * w3)

/-- The convolution at a step and a channel, over the three values before the steps and the steps' values. -/
def xc (p : Fin 3 → Fin 128 → EReal) (x : Fin 4 → Fin 128 → EReal) (w : Fin 4 → Fin 128 → EReal) (cb : Fin 128 → EReal) (t : Fin 4) (k : Fin 128) : EReal :=
  match t with
  | 0 => conv4 (cb k) (p 0 k) (p 1 k) (p 2 k) (x 0 k) (w 0 k) (w 1 k) (w 2 k) (w 3 k)
  | 1 => conv4 (cb k) (p 1 k) (p 2 k) (x 0 k) (x 1 k) (w 0 k) (w 1 k) (w 2 k) (w 3 k)
  | 2 => conv4 (cb k) (p 2 k) (x 0 k) (x 1 k) (x 2 k) (w 0 k) (w 1 k) (w 2 k) (w 3 k)
  | 3 => conv4 (cb k) (x 0 k) (x 1 k) (x 2 k) (x 3 k) (w 0 k) (w 1 k) (w 2 k) (w 3 k)

/-- A gate of a channel: the logistic function of a product over the channel's block plus a bias. -/
def gate (x W : Fin 128 → EReal) (b : EReal) : EReal := Ideal.logistic ((∑ k : Fin 128, x k * W k) + b)

/-- The softplus of a number's negation. -/
def sft (l : EReal) : EReal := max (-l) 0 + Ideal.log1p (Ideal.exp (-(max (-l) (- -l))))

/-- The logarithm of the decay. -/
def la (g l : EReal) : EReal := Ideal.ofBits FTy.f32 0xC1000000#32 * g * sft l

/-- The scaled input, the scale being the root of one minus the decay's square. -/
def uv (g i x l : EReal) : EReal := Ideal.sqrt (-(Ideal.expm1 (2 * la g l))) * (i * x)

/-- The state after the four steps. -/
def chain (A U : Fin 4 → EReal) (h : EReal) : EReal := A 3 * (A 2 * (A 1 * (A 0 * h + U 0) + U 1) + U 2) + U 3

/-- The state of a channel after the four steps, over the convolution's values in the channel's block. -/
def fin4 (X : Fin 4 → Fin 128 → EReal) (q : Fin 128) (Wr : Fin 128 → EReal) (br : EReal) (Wi : Fin 128 → EReal) (bi l h : EReal) : EReal :=
  chain (fun t => Ideal.exp (la (gate (X t) Wr br) l)) (fun t => uv (gate (X t) Wr br) (gate (X t) Wi bi) (X t q) l) h

/-- One minus the square of an exponential, by the hyperbolic tangent of the exponent. -/
theorem one_sub_sq (x : EReal) : -Ideal.tanh x * (Ideal.exp x * Ideal.exp x + 1) = -(Ideal.expm1 (2 * x)) := by
  unfold Ideal.expm1
  induction x with
  | bot =>
    rw [EReal.mul_bot_of_pos (by norm_num)]
    simp
  | top =>
    rw [EReal.mul_top_of_pos (by norm_num)]
    simp
    rfl
  | coe r =>
    have e2 : (2 : EReal) * (r : EReal) = ((2 * r : ℝ) : EReal) := by rw [EReal.coe_mul]; rfl
    rw [e2]
    simp only [Ideal.exp_coe, Ideal.tanh_coe]
    rw [← EReal.coe_mul, ← EReal.coe_one, ← EReal.coe_add, ← EReal.coe_neg, ← EReal.coe_mul, ← EReal.coe_sub, ← EReal.coe_neg]
    refine congrArg _ ?_
    have h := Real.exp_pos r
    rw [Real.tanh_eq_sinh_div_cosh, Real.sinh_eq, Real.cosh_eq, Real.exp_neg, show (2 : ℝ) * r = r + r by ring, Real.exp_add]
    field_simp

end Cert.Proof.RnnSample

end
-- ==== Proof.RnnPay.lean ====
module

public import proofs.«01_k».proof.Proof.RnnDefs
public import proofs.«01_k».proof.Defs
public import proofs.«01_k».proof.Proof.Gen.Kernel9Ideal.Value
public import Idealize.ShloMosaic.Lib.Tactic.ValueTie
public import Idealize.ShloMosaic.Lib.Pipeline.ValueKit
public import Idealize.ShloMosaic.Lib.StableHlo.ReadAt

@[expose] public section

/-! The recurrence's steps on the samples: what the call's payloads compute at an index. -/

set_option maxRecDepth 16384

noncomputable section

namespace Cert.Proof.RnnSample

open Cert.Kernel9Ideal Cert.Kernel9Ideal.Gen Idealize.ShloMosaic Idealize.ShloMosaic.TcCoe Idealize.SL.Sem

/-- The convolution at the first step. -/
theorem pay10_at (v0 : S4x128.Idx → EReal) (v1 v3 v5 v7 : S1x128x128.Idx → EReal) (v30 : S1x128.Idx → EReal) (r q : Fin 128) :
    @Eq EReal (k0_pay10 (F := Ideal) v0 v1 v3 v5 v7 v30 (ix2 r q)) (conv4 (v30 (ix2 0 q)) (v1 (ix3 0 r q)) (v3 (ix3 0 r q)) (v5 (ix3 0 r q)) (v7 (ix3 0 r q))
      (v0 (ix2 0 q)) (v0 (ix2 1 q)) (v0 (ix2 2 q)) (v0 (ix2 3 q))) := by
  unfold k0_pay10 k0_pay4 k0_pay5 k0_pay6 conv4
  pointwise
  try rfl

/-- The convolution at the second step. -/
theorem pay11_at (v0 : S4x128.Idx → EReal) (v4 v6 v8 v10 : S128x128.Idx → EReal) (v49 : S1x128.Idx → EReal) (r q : Fin 128) :
    @Eq EReal (k0_pay11 (F := Ideal) v0 v4 v6 v8 v10 v49 (ix2 r q)) (conv4 (v49 (ix2 0 q)) (v4 (ix2 r q)) (v6 (ix2 r q)) (v8 (ix2 r q)) (v10 (ix2 r q))
      (v0 (ix2 0 q)) (v0 (ix2 1 q)) (v0 (ix2 2 q)) (v0 (ix2 3 q))) := by
  unfold k0_pay11 conv4
  pointwise
  try rfl

/-- The convolution at the third step. -/
theorem pay12_at (v0 : S4x128.Idx → EReal) (v4 v6 v8 v10 : S128x128.Idx → EReal) (v49 : S1x128.Idx → EReal) (r q : Fin 128) :
    @Eq EReal (k0_pay12 (F := Ideal) v0 v4 v6 v8 v10 v49 (ix2 r q)) (conv4 (v49 (ix2 0 q)) (v4 (ix2 r q)) (v6 (ix2 r q)) (v8 (ix2 r q)) (v10 (ix2 r q))
      (v0 (ix2 0 q)) (v0 (ix2 1 q)) (v0 (ix2 2 q)) (v0 (ix2 3 q))) := by
  unfold k0_pay12 conv4
  pointwise
  try rfl

/-- The convolution at the last step, without its bias. -/
theorem pay13_at (v0 : S4x128.Idx → EReal) (v8 v10 v12 v14 : S128x128.Idx → EReal) (r q : Fin 128) :
    @Eq EReal (k0_pay13 (F := Ideal) v0 v8 v10 v12 v14 (ix2 r q))
      (v8 (ix2 r q) * v0 (ix2 0 q) + v10 (ix2 r q) * v0 (ix2 1 q) + v12 (ix2 r q) * v0 (ix2 2 q) + v14 (ix2 r q) * v0 (ix2 3 q)) := by
  unfold k0_pay13
  pointwise
  try rfl

/-- A loaded row of the values before the steps, with its unit axis dropped. -/
theorem pay4_at (v : S1x128x128.Idx → EReal) (r q : Fin 128) : @Eq EReal (k0_pay4 (F := Ideal) v (ix2 r q)) (v (ix3 0 r q)) := by
  unfold k0_pay4
  pointwise

/-- The last row before the steps, with its unit axis dropped. -/
theorem pay5_at (v : S1x128x128.Idx → EReal) (r q : Fin 128) : @Eq EReal (k0_pay5 (F := Ideal) v (ix2 r q)) (v (ix3 0 r q)) := by
  unfold k0_pay5
  pointwise

/-- The first step's row, with its unit axis dropped. -/
theorem pay6_at (v : S1x128x128.Idx → EReal) (r q : Fin 128) : @Eq EReal (k0_pay6 (F := Ideal) v (ix2 r q)) (v (ix3 0 r q)) := by
  unfold k0_pay6
  pointwise

/-- The second step's row, with its unit axis dropped. -/
theorem pay7_at (v : S1x128x128.Idx → EReal) (r q : Fin 128) : @Eq EReal (k0_pay7 (F := Ideal) v (ix2 r q)) (v (ix3 0 r q)) := by
  unfold k0_pay7
  pointwise

/-- The third step's row, with its unit axis dropped. -/
theorem pay8_at (v : S1x128x128.Idx → EReal) (r q : Fin 128) : @Eq EReal (k0_pay8 (F := Ideal) v (ix2 r q)) (v (ix3 0 r q)) := by
  unfold k0_pay8
  pointwise

/-- The last step's row, with its unit axis dropped. -/
theorem pay9_at (v : S1x128x128.Idx → EReal) (r q : Fin 128) : @Eq EReal (k0_pay9 (F := Ideal) v (ix2 r q)) (v (ix3 0 r q)) := by
  unfold k0_pay9
  pointwise

/-- The row of the stacked steps that a step and a row are. -/
def rw4 (t : Fin 4) (r : Fin 128) : Fin 512 := ⟨128 * t.val + r.val, by omega⟩

/-- The stacked convolution at the first step. -/
theorem pay14_0 (v33 v52 v71 v86 : S128x128.Idx → EReal) (v87 : S1x128.Idx → EReal) (r q : Fin 128) :
    @Eq EReal (k0_pay14 (F := Ideal) v33 v52 v71 v86 v87 (ix2 (rw4 0 r) q)) (v33 (ix2 r q)) := by
  have h : (rw4 0 r).val = r.val := by show 128 * 0 + r.val = r.val; omega
  unfold k0_pay14
  pointwise
  rw [dif_pos (by omega)]
  exact congrArg v33 (congrArg₂ ix2 (Fin.ext h) rfl)

/-- The stacked convolution at the second step. -/
theorem pay14_1 (v33 v52 v71 v86 : S128x128.Idx → EReal) (v87 : S1x128.Idx → EReal) (r q : Fin 128) :
    @Eq EReal (k0_pay14 (F := Ideal) v33 v52 v71 v86 v87 (ix2 (rw4 1 r) q)) (v52 (ix2 r q)) := by
  have h : (rw4 1 r).val = 128 + r.val := rfl
  unfold k0_pay14
  pointwise
  rw [dif_neg (by omega), dif_pos (by omega)]
  exact congrArg v52 (congrArg₂ ix2 (Fin.ext (by dsimp only; omega)) rfl)

/-- The stacked convolution at the third step. -/
theorem pay14_2 (v33 v52 v71 v86 : S128x128.Idx → EReal) (v87 : S1x128.Idx → EReal) (r q : Fin 128) :
    @Eq EReal (k0_pay14 (F := Ideal) v33 v52 v71 v86 v87 (ix2 (rw4 2 r) q)) (v71 (ix2 r q)) := by
  have h : (rw4 2 r).val = 256 + r.val := rfl
  unfold k0_pay14
  pointwise
  rw [dif_neg (by omega), dif_neg (by omega), dif_pos (by omega)]
  exact congrArg v71 (congrArg₂ ix2 (Fin.ext (by dsimp only; omega)) rfl)

/-- The stacked convolution at the last step. -/
theorem pay14_3 (v33 v52 v71 v86 : S128x128.Idx → EReal) (v87 : S1x128.Idx → EReal) (r q : Fin 128) :
    @Eq EReal (k0_pay14 (F := Ideal) v33 v52 v71 v86 v87 (ix2 (rw4 3 r) q)) (v87 (ix2 0 q) + v86 (ix2 r q)) := by
  have h : (rw4 3 r).val = 384 + r.val := rfl
  unfold k0_pay14
  pointwise
  rw [dif_neg (by omega), dif_neg (by omega), dif_neg (by omega)]
  exact congrArg (fun z : EReal => v87 (ix2 0 q) + z) (congrArg v86 (congrArg₂ ix2 (Fin.ext (by dsimp only; omega)) rfl))

/-- The input gate over the stacked convolution. -/
theorem pay16_at (v33 v52 v71 v86 : S128x128.Idx → EReal) (v87 : S1x128.Idx → EReal) (W : S1x128x128.Idx → EReal) (B : S1x128.Idx → EReal) (r : Fin 512) (q : Fin 128) :
    @Eq EReal (k0_pay16 (F := Ideal) v33 v52 v71 v86 v87 W B (ix2 r q))
      (gate (fun k => k0_pay14 (F := Ideal) v33 v52 v71 v86 v87 (ix2 r k)) (fun k => W (ix3 0 k q)) (B (ix2 0 q))) := by
  unfold k0_pay16 k0_pay15 gate
  pointwise
  try rfl

/-- The recurrence gate's multiple over the stacked convolution. -/
theorem pay17_at (v33 v52 v71 v86 : S128x128.Idx → EReal) (v87 : S1x128.Idx → EReal) (W : S1x128x128.Idx → EReal) (B : S1x128.Idx → EReal) (r : Fin 512) (q : Fin 128) :
    @Eq EReal (k0_pay17 (F := Ideal) v33 v52 v71 v86 v87 W B (ix2 r q))
      (Ideal.ofBits FTy.f32 0xC1000000#32 * gate (fun k => k0_pay14 (F := Ideal) v33 v52 v71 v86 v87 (ix2 r k)) (fun k => W (ix3 0 k q)) (B (ix2 0 q))) := by
  unfold k0_pay17 k0_pay15 gate
  pointwise
  try rfl

/-- The softplus, the same for every row. -/
theorem pay18_at (v100 : S1x128.Idx → EReal) (r : Fin 512) (q : Fin 128) :
    @Eq EReal (k0_pay18 (F := Ideal) v100 (ix2 r q)) (sft (v100 (ix2 0 q))) := by
  unfold k0_pay18
  pointwise
  rw [if_neg (fun h => h rfl)]
  unfold sft
  rw [zero_sub, zero_sub]
  rfl

/-- The decay. -/
theorem pay20_at (v112 v129 : S512x128.Idx → EReal) (i : S512x128.Idx) : @Eq EReal (k0_pay20 (F := Ideal) v112 v129 i) (Ideal.exp (v112 i * v129 i)) := by
  unfold k0_pay20 k0_pay19
  pointwise

/-- The scaled input. -/
theorem pay21_at (v91 v110 v112 v129 : S512x128.Idx → EReal) (i : S512x128.Idx) : @Eq EReal (k0_pay21 (F := Ideal) v91 v110 v112 v129 i)
    (Ideal.sqrt (-(Ideal.expm1 (2 * (v112 i * v129 i)))) * (v110 i * v91 i)) := by
  rw [← one_sub_sq, ← zero_sub (Ideal.tanh (v112 i * v129 i))]
  unfold k0_pay21 k0_pay20 k0_pay19
  pointwise

/-- The four steps. -/
theorem fin_at (v91 v110 v112 v129 : S512x128.Idx → EReal) (h0 : S128x128.Idx → EReal) (b q : Fin 128) :
    @Eq EReal (k0_pay2 (F := Ideal) (k0_pay20 (F := Ideal) v112 v129) (k0_pay21 (F := Ideal) v91 v110 v112 v129)
      (k0_pay26 (F := Ideal) (k0_pay20 (F := Ideal) v112 v129) (k0_pay21 (F := Ideal) v91 v110 v112 v129) (k0_pay24 (F := Ideal) v91 v110 v112 v129 h0)) (ix2 b q))
      (chain (fun t => k0_pay20 (F := Ideal) v112 v129 (ix2 (rw4 t b) q)) (fun t => k0_pay21 (F := Ideal) v91 v110 v112 v129 (ix2 (rw4 t b) q)) (h0 (ix2 b q))) := by
  unfold k0_pay2 k0_pay26 k0_pay24 k0_pay22
  generalize k0_pay20 (F := Ideal) v112 v129 = A
  generalize k0_pay21 (F := Ideal) v91 v110 v112 v129 = U
  have e0 : rw4 0 b = ⟨b.val, by omega⟩ := Fin.ext (by show 128 * 0 + b.val = b.val; omega)
  have e1 : rw4 1 b = ⟨128 + b.val, by omega⟩ := rfl
  have e2 : rw4 2 b = ⟨256 + b.val, by omega⟩ := rfl
  have e3 : rw4 3 b = ⟨384 + b.val, by omega⟩ := rfl
  unfold chain
  dsimp only
  rw [e0, e1, e2, e3]
  pointwise

/-- Row 0 of the values before the steps. -/
theorem ldp0 (X : S3x128x128.Idx → EReal) (r q : Fin 128) : @Eq EReal (View.ld (Val := Elt Ideal) (e' := .f32) X r0_1 (ix3 0 r q)) (X (ix3 0 r q)) :=
  View.ld_unit_apply_of (Val := Elt Ideal) (e := .f32) X _ _ _ _ _ (fun a => by fin_cases a <;> simp)

/-- Row 1 of the values before the steps. -/
theorem ldp1 (X : S3x128x128.Idx → EReal) (r q : Fin 128) : @Eq EReal (View.ld (Val := Elt Ideal) (e' := .f32) X r0_2 (ix3 0 r q)) (X (ix3 1 r q)) :=
  View.ld_unit_apply_of (Val := Elt Ideal) (e := .f32) X _ _ _ _ _ (fun a => by fin_cases a <;> simp)

/-- Row 2 of the values before the steps. -/
theorem ldp2 (X : S3x128x128.Idx → EReal) (r q : Fin 128) : @Eq EReal (View.ld (Val := Elt Ideal) (e' := .f32) X r0_3 (ix3 0 r q)) (X (ix3 2 r q)) :=
  View.ld_unit_apply_of (Val := Elt Ideal) (e := .f32) X _ _ _ _ _ (fun a => by fin_cases a <;> simp)

/-- Row 0 of the steps' values. -/
theorem ldx0 (X : S4x128x128.Idx → EReal) (r q : Fin 128) : @Eq EReal (View.ld (Val := Elt Ideal) (e' := .f32) X r0_4 (ix3 0 r q)) (X (ix3 0 r q)) :=
  View.ld_unit_apply_of (Val := Elt Ideal) (e := .f32) X _ _ _ _ _ (fun a => by fin_cases a <;> simp)

/-- Row 1 of the steps' values. -/
theorem ldx1 (X : S4x128x128.Idx → EReal) (r q : Fin 128) : @Eq EReal (View.ld (Val := Elt Ideal) (e' := .f32) X r0_5 (ix3 0 r q)) (X (ix3 1 r q)) :=
  View.ld_unit_apply_of (Val := Elt Ideal) (e := .f32) X _ _ _ _ _ (fun a => by fin_cases a <;> simp)

/-- Row 2 of the steps' values. -/
theorem ldx2 (X : S4x128x128.Idx → EReal) (r q : Fin 128) : @Eq EReal (View.ld (Val := Elt Ideal) (e' := .f32) X r0_6 (ix3 0 r q)) (X (ix3 2 r q)) :=
  View.ld_unit_apply_of (Val := Elt Ideal) (e := .f32) X _ _ _ _ _ (fun a => by fin_cases a <;> simp)

/-- Row 3 of the steps' values. -/
theorem ldx3 (X : S4x128x128.Idx → EReal) (r q : Fin 128) : @Eq EReal (View.ld (Val := Elt Ideal) (e' := .f32) X r0_7 (ix3 0 r q)) (X (ix3 3 r q)) :=
  View.ld_unit_apply_of (Val := Elt Ideal) (e := .f32) X _ _ _ _ _ (fun a => by fin_cases a <;> simp)

variable (x0 : S4x128x128.Idx → EReal) (x1 : S3x128x128.Idx → EReal) (x2 : S4x128x128.Idx → EReal) (x3 : S128x128.Idx → EReal) (x4 : S4x128.Idx → EReal) (x5 : S1x128.Idx → EReal) (x6 : S1x128x128.Idx → EReal) (x7 : S1x128.Idx → EReal) (x8 : S1x128x128.Idx → EReal) (x9 x10 : S1x128.Idx → EReal)

/-- The stacked convolution over the blocks. -/
theorem pay36_at (t : Fin 4) (r k : Fin 128) : @Eq EReal (k0_pay36 (F := Ideal) x0 x1 x2 x3 x4 x5 x6 x7 x8 x9 x10 (ix2 (rw4 t r) k))
    (xc (fun s k => x1 (ix3 s r k)) (fun s k => x0 (ix3 s r k)) (fun s k => x4 (ix2 s k)) (fun k => x5 (ix2 0 k)) t k) := by
  have h0 : View.ld (Val := Elt Ideal) (e' := .f32) x4 r0_0 = x4 := View.ld_unit_lit _ _ (by decide)
  have h5 : View.ld (Val := Elt Ideal) (e' := .f32) x5 r0_8 = x5 := View.ld_unit_lit _ _ (by decide)
  unfold k0_pay36
  rw [h5]
  match t with
  | 0 =>
    refine (pay14_0 _ _ _ _ _ r k).trans ?_
    unfold k0_pay32
    rw [h0, h5]
    refine (pay10_at _ _ _ _ _ _ r k).trans ?_
    rw [ldp0, ldp1, ldp2, ldx0]
    rfl
  | 1 =>
    refine (pay14_1 _ _ _ _ _ r k).trans ?_
    unfold k0_pay33 k0_pay28 k0_pay29 k0_pay30
    rw [h0, h5]
    refine (pay11_at _ _ _ _ _ _ r k).trans ?_
    rw [pay4_at, pay5_at, pay6_at, pay7_at, ldp1, ldp2, ldx0, ldx1]
    rfl
  | 2 =>
    refine (pay14_2 _ _ _ _ _ r k).trans ?_
    unfold k0_pay34 k0_pay28 k0_pay29 k0_pay30 k0_pay31
    rw [h0, h5]
    refine (pay12_at _ _ _ _ _ _ r k).trans ?_
    rw [pay5_at, pay6_at, pay7_at, pay8_at, ldp2, ldx0, ldx1, ldx2]
    rfl
  | 3 =>
    refine (pay14_3 _ _ _ _ _ r k).trans ?_
    unfold k0_pay35 k0_pay29 k0_pay30 k0_pay31
    rw [h0, pay13_at, pay6_at, pay7_at, pay8_at, pay9_at, ldx0, ldx1, ldx2, ldx3]
    rfl

/-- The input gate over the blocks. -/
theorem pay37_at (t : Fin 4) (r q : Fin 128) : @Eq EReal (k0_pay37 (F := Ideal) x0 x1 x2 x3 x4 x5 x6 x7 x8 x9 x10 (ix2 (rw4 t r) q))
    (gate (xc (fun s k => x1 (ix3 s r k)) (fun s k => x0 (ix3 s r k)) (fun s k => x4 (ix2 s k)) (fun k => x5 (ix2 0 k)) t) (fun k => x8 (ix3 0 k q)) (x9 (ix2 0 q))) := by
  have h8 : View.ld (Val := Elt Ideal) (e' := .bf16) x8 r0_9 = x8 := View.ld_unit_lit _ _ (by decide)
  have h9 : View.ld (Val := Elt Ideal) (e' := .f32) x9 r0_8 = x9 := View.ld_unit_lit _ _ (by decide)
  unfold k0_pay37
  rw [h8, h9]
  refine (pay16_at _ _ _ _ _ _ _ _ q).trans ?_
  exact congrArg (fun z => gate z _ _) (funext fun k => pay36_at x0 x1 x2 x3 x4 x5 x6 x7 x8 x9 x10 t r k)

/-- The recurrence gate's multiple over the blocks. -/
theorem pay38_at (t : Fin 4) (r q : Fin 128) : @Eq EReal (k0_pay38 (F := Ideal) x0 x1 x2 x3 x4 x5 x6 x7 x8 x9 x10 (ix2 (rw4 t r) q))
    (Ideal.ofBits FTy.f32 0xC1000000#32 * gate (xc (fun s k => x1 (ix3 s r k)) (fun s k => x0 (ix3 s r k)) (fun s k => x4 (ix2 s k)) (fun k => x5 (ix2 0 k)) t) (fun k => x6 (ix3 0 k q)) (x7 (ix2 0 q))) := by
  have h6 : View.ld (Val := Elt Ideal) (e' := .bf16) x6 r0_9 = x6 := View.ld_unit_lit _ _ (by decide)
  have h7 : View.ld (Val := Elt Ideal) (e' := .f32) x7 r0_8 = x7 := View.ld_unit_lit _ _ (by decide)
  unfold k0_pay38
  rw [h6, h7]
  refine (pay17_at _ _ _ _ _ _ _ _ q).trans ?_
  exact congrArg (fun z => Ideal.ofBits FTy.f32 0xC1000000#32 * gate z _ _) (funext fun k => pay36_at x0 x1 x2 x3 x4 x5 x6 x7 x8 x9 x10 t r k)

/-- The logarithm of the decay over the blocks. -/
theorem la_at (t : Fin 4) (r q : Fin 128) :
    (k0_pay38 (F := Ideal) x0 x1 x2 x3 x4 x5 x6 x7 x8 x9 x10 (ix2 (rw4 t r) q) : EReal) * (k0_pay39 (F := Ideal) x0 x1 x2 x3 x4 x5 x6 x7 x8 x9 x10 (ix2 (rw4 t r) q) : EReal)
      = la (gate (xc (fun s k => x1 (ix3 s r k)) (fun s k => x0 (ix3 s r k)) (fun s k => x4 (ix2 s k)) (fun k => x5 (ix2 0 k)) t) (fun k => x6 (ix3 0 k q)) (x7 (ix2 0 q))) (x10 (ix2 0 q)) := by
  have h10 : View.ld (Val := Elt Ideal) (e' := .f32) x10 r0_8 = x10 := View.ld_unit_lit _ _ (by decide)
  rw [pay38_at]
  unfold k0_pay39
  rw [h10, pay18_at]
  rfl

/-- The state's block over the blocks. -/
theorem out_at (r q : Fin 128) : @Eq EReal (k0_pay2 (F := Ideal) (k0_pay40 (F := Ideal) x0 x1 x2 x3 x4 x5 x6 x7 x8 x9 x10) (k0_pay41 (F := Ideal) x0 x1 x2 x3 x4 x5 x6 x7 x8 x9 x10) (k0_pay43 (F := Ideal) x0 x1 x2 x3 x4 x5 x6 x7 x8 x9 x10) (ix2 r q))
    (fin4 (xc (fun s k => x1 (ix3 s r k)) (fun s k => x0 (ix3 s r k)) (fun s k => x4 (ix2 s k)) (fun k => x5 (ix2 0 k))) q (fun k => x6 (ix3 0 k q)) (x7 (ix2 0 q)) (fun k => x8 (ix3 0 k q)) (x9 (ix2 0 q)) (x10 (ix2 0 q)) (x3 (ix2 r q))) := by
  have h3 : View.ld (Val := Elt Ideal) (e' := .f32) x3 r0_10 = x3 := View.ld_unit_lit _ _ (by decide)
  unfold k0_pay43 k0_pay42 k0_pay41 k0_pay40
  rw [h3]
  refine (fin_at _ _ _ _ _ r q).trans ?_
  unfold fin4 uv
  simp only [pay20_at, pay21_at, la_at, pay36_at, pay37_at]

end Cert.Proof.RnnSample

end
-- ==== Proof.RnnRef.lean ====
module

public import proofs.«01_k».proof.Proof.RnnDefs
public import proofs.«01_k».proof.Defs
public import proofs.«01_k».proof.Proof.Gen.Reference9Ideal.Run
public import Idealize.ShloMosaic.Lib.Tactic.ValueTie
public import Idealize.ShloMosaic.Lib.Pipeline.ValueKit
public import Idealize.ShloMosaic.Lib.StableHlo.ReadAt

@[expose] public section

/-! The recurrence's steps on the samples as the reference computes them. -/

set_option maxRecDepth 200000

noncomputable section

namespace Cert.Proof.RnnSample

open Cert.Reference9Ideal Cert.Reference9Ideal.Gen Idealize.ShloMosaic Idealize.ShloMosaic.TcCoe Idealize.SL.Sem

/-- The reference's convolution. -/
def Xc (x : FVec Ideal S128x4x2048 .f32) (p : FVec Ideal S128x3x2048 .f32) (w : FVec Ideal S4x2048 .f32) (cb : FVec Ideal S2048 .f32) : FVec Ideal S128x4x2048 .f32 :=
  addf (broadcastInDim S128x4x2048 ![0, 1, 2] bcast_S1x1x2048_S128x4x2048_0_1_2 (broadcastInDim S1x1x2048 ![2] bcast_S2048_S1x1x2048_2 cb)) (addf (addf (addf (addf (broadcastInDim S128x4x2048 ![] bcast_S_S128x4x2048 (constant S_ .f32 0x00000000#32)) (mulf (extractStridedSlice S128x4x2048 ![0, 0, 0] (concatenate S128x7x2048 1 [⟨S128x3x2048, p⟩, ⟨S128x4x2048, x⟩] concatenates_S128x3x2048_S128x4x2048_S128x7x2048_d1) slices_S128x7x2048_S128x4x2048_0_0_0) (broadcastInDim S128x4x2048 ![0, 1, 2] bcast_S1x1x2048_S128x4x2048_0_1_2 (broadcastInDim S1x1x2048 ![2] bcast_S2048_S1x1x2048_2 (shapeCast _ (extractStridedSlice S1x2048 ![0, 0] w slices_S4x2048_S1x2048_0_0) shapeCasts_S1x2048_S2048))))) (mulf (extractStridedSlice S128x4x2048 ![0, 1, 0] (concatenate S128x7x2048 1 [⟨S128x3x2048, p⟩, ⟨S128x4x2048, x⟩] concatenates_S128x3x2048_S128x4x2048_S128x7x2048_d1) slices_S128x7x2048_S128x4x2048_0_1_0) (broadcastInDim S128x4x2048 ![0, 1, 2] bcast_S1x1x2048_S128x4x2048_0_1_2 (broadcastInDim S1x1x2048 ![2] bcast_S2048_S1x1x2048_2 (shapeCast _ (extractStridedSlice S1x2048 ![1, 0] w slices_S4x2048_S1x2048_1_0) shapeCasts_S1x2048_S2048))))) (mulf (extractStridedSlice S128x4x2048 ![0, 2, 0] (concatenate S128x7x2048 1 [⟨S128x3x2048, p⟩, ⟨S128x4x2048, x⟩] concatenates_S128x3x2048_S128x4x2048_S128x7x2048_d1) slices_S128x7x2048_S128x4x2048_0_2_0) (broadcastInDim S128x4x2048 ![0, 1, 2] bcast_S1x1x2048_S128x4x2048_0_1_2 (broadcastInDim S1x1x2048 ![2] bcast_S2048_S1x1x2048_2 (shapeCast _ (extractStridedSlice S1x2048 ![2, 0] w slices_S4x2048_S1x2048_2_0) shapeCasts_S1x2048_S2048))))) (mulf (extractStridedSlice S128x4x2048 ![0, 3, 0] (concatenate S128x7x2048 1 [⟨S128x3x2048, p⟩, ⟨S128x4x2048, x⟩] concatenates_S128x3x2048_S128x4x2048_S128x7x2048_d1) slices_S128x7x2048_S128x4x2048_0_3_0) (broadcastInDim S128x4x2048 ![0, 1, 2] bcast_S1x1x2048_S128x4x2048_0_1_2 (broadcastInDim S1x1x2048 ![2] bcast_S2048_S1x1x2048_2 (shapeCast _ (extractStridedSlice S1x2048 ![3, 0] w slices_S4x2048_S1x2048_3_0) shapeCasts_S1x2048_S2048)))))

/-- A gate of the reference. -/
def Gt (X : FVec Ideal S128x4x2048 .f32) (W : FVec Ideal S16x128x128 .f32) (b : FVec Ideal S2048 .f32) : FVec Ideal S128x4x2048 .f32 :=
  Host.divf (broadcastInDim S128x4x2048 ![] bcast_S_S128x4x2048 (constant S_ .f32 0x3F800000#32)) (addf (broadcastInDim S128x4x2048 ![] bcast_S_S128x4x2048 (constant S_ .f32 0x3F800000#32)) (Host.exp (Host.negf (addf (shapeCast _ (transpose S128x4x16x128 [2, 3, 0, 1] (Host.dotGeneral dot_S16x128x128_S128x4x16x128_S16x128x128x4_1_3_2_01_0_2 none W (shapeCast _ X shapeCasts_S128x4x2048_S128x4x16x128)) transposes_S16x128x128x4_S128x4x16x128_2_3_0_1) shapeCasts_S128x4x16x128_S128x4x2048) (broadcastInDim S128x4x2048 ![0, 1, 2] bcast_S1x1x2048_S128x4x2048_0_1_2 (broadcastInDim S1x1x2048 ![2] bcast_S2048_S1x1x2048_2 b))))))

/-- The reference's softplus. -/
def Sf (l : FVec Ideal S2048 .f32) : FVec Ideal S2048 .f32 :=
  select (cmpf .une (subf (Host.negf l) (broadcastInDim S2048 ![] bcast_S_S2048 (constant S_ .f32 0x00000000#32))) (subf (Host.negf l) (broadcastInDim S2048 ![] bcast_S_S2048 (constant S_ .f32 0x00000000#32)))) (addf (Host.negf l) (broadcastInDim S2048 ![] bcast_S_S2048 (constant S_ .f32 0x00000000#32))) (addf (maximumf (Host.negf l) (broadcastInDim S2048 ![] bcast_S_S2048 (constant S_ .f32 0x00000000#32))) (Host.log1p (Host.exp (Host.negf (Host.absf (subf (Host.negf l) (broadcastInDim S2048 ![] bcast_S_S2048 (constant S_ .f32 0x00000000#32))))))))

/-- The reference's logarithm of the decay. -/
def La (R : FVec Ideal S128x4x2048 .f32) (S : FVec Ideal S2048 .f32) : FVec Ideal S128x4x2048 .f32 :=
  mulf (mulf (broadcastInDim S128x4x2048 ![] bcast_S_S128x4x2048 (constant S_ .f32 0xC1000000#32)) R) (broadcastInDim S128x4x2048 ![0, 1, 2] bcast_S1x1x2048_S128x4x2048_0_1_2 (broadcastInDim S1x1x2048 ![2] bcast_S2048_S1x1x2048_2 S))

/-- The reference's decay. -/
def At (L : FVec Ideal S128x4x2048 .f32) : FVec Ideal S128x4x2048 .f32 :=
  Host.exp L

/-- The reference's scaled input. -/
def Ut (L I X : FVec Ideal S128x4x2048 .f32) : FVec Ideal S128x4x2048 .f32 :=
  mulf (Host.sqrt (Host.negf (Host.expm1 (mulf (broadcastInDim S128x4x2048 ![] bcast_S_S128x4x2048 (constant S_ .f32 0x40000000#32)) L)))) (mulf I X)

/-- The reference's four steps. -/
def Ht (A U : FVec Ideal S128x4x2048 .f32) (h : FVec Ideal S128x2048 .f32) : FVec Ideal S128x2048 .f32 :=
  addf (mulf (shapeCast _ (extractStridedSlice S128x1x2048 ![0, 3, 0] A slices_S128x4x2048_S128x1x2048_0_3_0) shapeCasts_S128x1x2048_S128x2048) (addf (mulf (shapeCast _ (extractStridedSlice S128x1x2048 ![0, 2, 0] A slices_S128x4x2048_S128x1x2048_0_2_0) shapeCasts_S128x1x2048_S128x2048) (addf (mulf (shapeCast _ (extractStridedSlice S128x1x2048 ![0, 1, 0] A slices_S128x4x2048_S128x1x2048_0_1_0) shapeCasts_S128x1x2048_S128x2048) (addf (mulf (shapeCast _ (extractStridedSlice S128x1x2048 ![0, 0, 0] A slices_S128x4x2048_S128x1x2048_0_0_0) shapeCasts_S128x1x2048_S128x2048) h) (shapeCast _ (extractStridedSlice S128x1x2048 ![0, 0, 0] U slices_S128x4x2048_S128x1x2048_0_0_0) shapeCasts_S128x1x2048_S128x2048))) (shapeCast _ (extractStridedSlice S128x1x2048 ![0, 1, 0] U slices_S128x4x2048_S128x1x2048_0_1_0) shapeCasts_S128x1x2048_S128x2048))) (shapeCast _ (extractStridedSlice S128x1x2048 ![0, 2, 0] U slices_S128x4x2048_S128x1x2048_0_2_0) shapeCasts_S128x1x2048_S128x2048))) (shapeCast _ (extractStridedSlice S128x1x2048 ![0, 3, 0] U slices_S128x4x2048_S128x1x2048_0_3_0) shapeCasts_S128x1x2048_S128x2048)

/-- The four steps at a row and a channel. -/
theorem Ht_at (A U : FVec Ideal S128x4x2048 .f32) (h : FVec Ideal S128x2048 .f32) (b : Fin 128) (j : Fin 2048) :
    @Eq EReal (Ht A U h (ix2 b j)) (chain (fun t => A (ix3 b t j)) (fun t => U (ix3 b t j)) (h (ix2 b j))) := by
  unfold chain Ht
  pointwise
  try rfl

/-- The convolution at a row, a step and a channel. -/
theorem Xc_at (x : FVec Ideal S128x4x2048 .f32) (p : FVec Ideal S128x3x2048 .f32) (w : FVec Ideal S4x2048 .f32) (cb : FVec Ideal S2048 .f32)
    (b : Fin 128) (t : Fin 4) (j : Fin 2048) (f : Fin 128 → Fin 2048) (k : Fin 128) (hj : f k = j) : @Eq EReal (Xc x p w cb (ix3 b t j))
      (xc (fun s k => p (ix3 b s (f k))) (fun s k => x (ix3 b s (f k))) (fun s k => w (ix2 s (f k))) (fun k => cb (ix1 (f k))) t k) := by
  subst hj
  unfold Xc
  pointwise
  fin_cases t <;> rfl

/-- The channel of a place in a channel's block. -/
def ch (j : Fin 2048) (k : Fin 128) : Fin 2048 := ⟨j.val / 128 * 128 + k.val, by omega⟩

/-- The block of a channel. -/
def bk (j : Fin 2048) : Fin 16 := ⟨j.val / 128, by omega⟩

/-- The place of a channel in its block. -/
def pl (j : Fin 2048) : Fin 128 := ⟨j.val % 128, by omega⟩

/-- A gate at a row, a step and a channel. -/
theorem Gt_at (X : FVec Ideal S128x4x2048 .f32) (W : FVec Ideal S16x128x128 .f32) (bb : FVec Ideal S2048 .f32) (b : Fin 128) (t : Fin 4) (j : Fin 2048) :
    @Eq EReal (Gt X W bb (ix3 b t j)) (gate (fun k => X (ix3 b t (ch j k))) (fun k => W (ix3 (bk j) k (pl j))) (bb (ix1 j))) := by
  unfold gate Ideal.logistic
  rw [Finset.sum_congr rfl fun k _ => mul_comm (X (ix3 b t (ch j k)) : EReal) (W (ix3 (bk j) k (pl j)) : EReal)]
  unfold Gt
  pointwise
  try rfl

/-- The softplus at a channel. -/
theorem Sf_at (l : FVec Ideal S2048 .f32) (j : Fin 2048) : @Eq EReal (Sf l (ix1 j)) (sft (l (ix1 j))) := by
  unfold Sf
  pointwise
  rw [if_neg (fun h => h rfl)]
  rfl

/-- The logarithm of the decay at a row, a step and a channel. -/
theorem La_at (G : FVec Ideal S128x4x2048 .f32) (S : FVec Ideal S2048 .f32) (b : Fin 128) (t : Fin 4) (j : Fin 2048) :
    @Eq EReal (La G S (ix3 b t j)) (Ideal.ofBits FTy.f32 0xC1000000#32 * G (ix3 b t j) * S (ix1 j)) := by
  unfold La
  pointwise
  try rfl

/-- The decay at an index. -/
theorem At_at (L : FVec Ideal S128x4x2048 .f32) (b : Fin 128) (t : Fin 4) (j : Fin 2048) : @Eq EReal (At L (ix3 b t j)) (Ideal.exp (L (ix3 b t j))) := by
  unfold At
  pointwise
  try rfl

/-- The scaled input at an index. -/
theorem Ut_at (L I X : FVec Ideal S128x4x2048 .f32) (b : Fin 128) (t : Fin 4) (j : Fin 2048) : @Eq EReal (Ut L I X (ix3 b t j))
    (Ideal.sqrt (-(Ideal.expm1 (2 * L (ix3 b t j)))) * (I (ix3 b t j) * X (ix3 b t j))) := by
  rw [← Attn.two_eq]
  unfold Ut
  pointwise
  try rfl

variable (m : (ℓ : Loc nD τ sig) → Buf (Elt Ideal) ℓ)

/-- The reference's result over its stages. -/
theorem ref_eq (c : Dev nD) : Value.res_main_v97 m c = Ht (At (La (Gt (Xc (m ((c.tc : Thread nD τ).loc main_arg0)) (m ((c.tc : Thread nD τ).loc main_arg1)) (m ((c.tc : Thread nD τ).loc main_arg4)) (m ((c.tc : Thread nD τ).loc main_arg5))) (m ((c.tc : Thread nD τ).loc main_arg6)) (m ((c.tc : Thread nD τ).loc main_arg7))) (Sf (m ((c.tc : Thread nD τ).loc main_arg10))))) (Ut (La (Gt (Xc (m ((c.tc : Thread nD τ).loc main_arg0)) (m ((c.tc : Thread nD τ).loc main_arg1)) (m ((c.tc : Thread nD τ).loc main_arg4)) (m ((c.tc : Thread nD τ).loc main_arg5))) (m ((c.tc : Thread nD τ).loc main_arg6)) (m ((c.tc : Thread nD τ).loc main_arg7))) (Sf (m ((c.tc : Thread nD τ).loc main_arg10)))) (Gt (Xc (m ((c.tc : Thread nD τ).loc main_arg0)) (m ((c.tc : Thread nD τ).loc main_arg1)) (m ((c.tc : Thread nD τ).loc main_arg4)) (m ((c.tc : Thread nD τ).loc main_arg5))) (m ((c.tc : Thread nD τ).loc main_arg8)) (m ((c.tc : Thread nD τ).loc main_arg9))) (Xc (m ((c.tc : Thread nD τ).loc main_arg0)) (m ((c.tc : Thread nD τ).loc main_arg1)) (m ((c.tc : Thread nD τ).loc main_arg4)) (m ((c.tc : Thread nD τ).loc main_arg5)))) (m ((c.tc : Thread nD τ).loc main_arg3)) := rfl

/-- The state after the four steps at a row and a channel, over the arguments. -/
def spec (x : S128x4x2048.Idx → EReal) (p : S128x3x2048.Idx → EReal) (h : S128x2048.Idx → EReal) (w : S4x2048.Idx → EReal) (cb : S2048.Idx → EReal)
    (Wr : S16x128x128.Idx → EReal) (br : S2048.Idx → EReal) (Wi : S16x128x128.Idx → EReal) (bi l : S2048.Idx → EReal) (b : Fin 128) (j : Fin 2048) : EReal :=
  fin4 (xc (fun s k => p (ix3 b s (ch j k))) (fun s k => x (ix3 b s (ch j k))) (fun s k => w (ix2 s (ch j k))) (fun k => cb (ix1 (ch j k)))) (pl j)
    (fun k => Wr (ix3 (bk j) k (pl j))) (br (ix1 j)) (fun k => Wi (ix3 (bk j) k (pl j))) (bi (ix1 j)) (l (ix1 j)) (h (ix2 b j))

/-- A channel is the channel of its place in its block. -/
theorem ch_pl (j : Fin 2048) : ch j (pl j) = j := Fin.ext (by unfold ch pl; dsimp only; omega)

/-- The reference's result at a row and a channel. -/
theorem ref_at (c : Dev nD) (b : Fin 128) (j : Fin 2048) : @Eq EReal (Value.res_main_v97 m c (ix2 b j))
    (spec (m (c, Proc.tc.devRef main_arg0)) (m (c, Proc.tc.devRef main_arg1)) (m (c, Proc.tc.devRef main_arg3)) (m (c, Proc.tc.devRef main_arg4))
      (m (c, Proc.tc.devRef main_arg5)) (m (c, Proc.tc.devRef main_arg6)) (m (c, Proc.tc.devRef main_arg7)) (m (c, Proc.tc.devRef main_arg8))
      (m (c, Proc.tc.devRef main_arg9)) (m (c, Proc.tc.devRef main_arg10)) b j) := by
  rw [ref_eq]
  refine (Ht_at _ _ _ b j).trans ?_
  unfold spec fin4 uv la
  simp only [At_at, Ut_at, La_at, Sf_at, Gt_at]
  have hx := fun (t : Fin 4) (k : Fin 128) => Xc_at (m ((c.tc : Thread nD τ).loc main_arg0)) (m ((c.tc : Thread nD τ).loc main_arg1))
    (m ((c.tc : Thread nD τ).loc main_arg4)) (m ((c.tc : Thread nD τ).loc main_arg5)) b t (ch j k) (ch j) k rfl
  have hp := fun (t : Fin 4) => Xc_at (m ((c.tc : Thread nD τ).loc main_arg0)) (m ((c.tc : Thread nD τ).loc main_arg1))
    (m ((c.tc : Thread nD τ).loc main_arg4)) (m ((c.tc : Thread nD τ).loc main_arg5)) b t j (ch j) (pl j) (ch_pl j)
  simp only [hx, hp]

end Cert.Proof.RnnSample

end
-- ==== Proof.RnnSample.lean ====
module

public import proofs.«01_k».proof.Defs
public import proofs.«01_k».proof.Proof.Gen.Kernel9Ideal.Value
public import proofs.«01_k».proof.Proof.RnnPay
public import proofs.«01_k».proof.Proof.RnnRef
public import Idealize.ShloMosaic.Lib.Claim
public import Idealize.ShloMosaic.Lib.Tactic.ValueTie
public import Idealize.ShloMosaic.Lib.Pipeline.ValueKit
public import Idealize.ShloMosaic.Lib.StableHlo.ReadAt

@[expose] public section

/-! The recurrence's steps on the samples: the state after the steps, one block of channels per grid point. -/

set_option maxRecDepth 16384

noncomputable section

namespace Cert.Proof.RnnSample

open Cert.Kernel9Ideal Cert.Kernel9Ideal.Gen Idealize.ShloMosaic Idealize.ShloMosaic.TcCoe Idealize.SL.Sem

variable (m : (ℓ : Loc nD τ sig) → Buf (Elt Ideal) ℓ)

/-- Where each window's block sits. -/
theorem idx (t : Fin cfg0.N) : win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_3.index t (0 : Fin 2) = 0 ∧ win0_3.index t (1 : Fin 2) = t.val ∧ win0_4.index t (0 : Fin 2) = 0
    ∧ win0_4.index t (1 : Fin 2) = t.val ∧ win0_5.index t (0 : Fin 2) = 0 ∧ win0_5.index t (1 : Fin 2) = t.val
    ∧ win0_6.index t (0 : Fin 3) = t.val ∧ win0_6.index t (1 : Fin 3) = 0 ∧ win0_6.index t (2 : Fin 3) = 0
    ∧ win0_7.index t (0 : Fin 2) = 0 ∧ win0_7.index t (1 : Fin 2) = t.val ∧ win0_8.index t (0 : Fin 3) = t.val
    ∧ win0_8.index t (1 : Fin 3) = 0 ∧ win0_8.index t (2 : Fin 3) = 0 ∧ win0_9.index t (0 : Fin 2) = 0
    ∧ win0_9.index t (1 : Fin 2) = t.val ∧ win0_10.index t (0 : Fin 2) = 0 ∧ win0_10.index t (1 : Fin 2) = t.val
    ∧ win0_12.index t (0 : Fin 2) = 0 ∧ win0_12.index t (1 : Fin 2) = t.val :=
  (by decide +kernel : ∀ t : Fin grid0.N, win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_3.index t (0 : Fin 2) = 0 ∧ win0_3.index t (1 : Fin 2) = t.val ∧ win0_4.index t (0 : Fin 2) = 0
    ∧ win0_4.index t (1 : Fin 2) = t.val ∧ win0_5.index t (0 : Fin 2) = 0 ∧ win0_5.index t (1 : Fin 2) = t.val
    ∧ win0_6.index t (0 : Fin 3) = t.val ∧ win0_6.index t (1 : Fin 3) = 0 ∧ win0_6.index t (2 : Fin 3) = 0
    ∧ win0_7.index t (0 : Fin 2) = 0 ∧ win0_7.index t (1 : Fin 2) = t.val ∧ win0_8.index t (0 : Fin 3) = t.val
    ∧ win0_8.index t (1 : Fin 3) = 0 ∧ win0_8.index t (2 : Fin 3) = 0 ∧ win0_9.index t (0 : Fin 2) = 0
    ∧ win0_9.index t (1 : Fin 2) = t.val ∧ win0_10.index t (0 : Fin 2) = 0 ∧ win0_10.index t (1 : Fin 2) = t.val
    ∧ win0_12.index t (0 : Fin 2) = 0 ∧ win0_12.index t (1 : Fin 2) = t.val) t

/-- The number of grid points. -/
theorem N_eq : cfg0.N = 16 := N_0

/-- The steps' values at the region's entry. -/
theorem V0 (c : Dev nD) (s : Fin 4) (r : Fin 128) (j : Fin 2048) : @Eq EReal (V m c main_v0 (ix3 s r j)) (m (c, Proc.devRef .tc main_arg0) (ix3 r s j)) := by
  unfold V
  after_reads_at

/-- The values before the steps at the region's entry. -/
theorem V1 (c : Dev nD) (s : Fin 3) (r : Fin 128) (j : Fin 2048) : @Eq EReal (V m c main_v1 (ix3 s r j)) (m (c, Proc.devRef .tc main_arg1) (ix3 r s j)) := by
  unfold V
  after_reads_at

/-- The convolution's bias at the region's entry. -/
theorem V5 (c : Dev nD) (j : Fin 2048) : @Eq EReal (V m c main_v5 (ix2 0 j)) (m (c, Proc.devRef .tc main_arg5) (ix1 j)) := by
  unfold V
  after_reads_at

/-- The recurrence gate's weights at the region's entry. -/
theorem V6 (c : Dev nD) (n : Fin 16) (k q : Fin 128) : @Eq EReal (V m c main_v3 (ix3 n k q)) (m (c, Proc.devRef .tc main_arg6) (ix3 n k q)) := by
  unfold V
  after_reads_at

/-- The recurrence gate's bias at the region's entry. -/
theorem V7 (c : Dev nD) (j : Fin 2048) : @Eq EReal (V m c main_v6 (ix2 0 j)) (m (c, Proc.devRef .tc main_arg7) (ix1 j)) := by
  unfold V
  after_reads_at

/-- The input gate's weights at the region's entry. -/
theorem V8 (c : Dev nD) (n : Fin 16) (k q : Fin 128) : @Eq EReal (V m c main_v4 (ix3 n k q)) (m (c, Proc.devRef .tc main_arg8) (ix3 n k q)) := by
  unfold V
  after_reads_at

/-- The input gate's bias at the region's entry. -/
theorem V9 (c : Dev nD) (j : Fin 2048) : @Eq EReal (V m c main_v7 (ix2 0 j)) (m (c, Proc.devRef .tc main_arg9) (ix1 j)) := by
  unfold V
  after_reads_at

/-- The decay's parameter at the region's entry. -/
theorem V10 (c : Dev nD) (j : Fin 2048) : @Eq EReal (V m c main_v8 (ix2 0 j)) (m (c, Proc.devRef .tc main_arg10) (ix1 j)) := by
  unfold V
  after_reads_at

/-- The block of channels of a grid point. -/
def nb (t : Fin cfg0.N) : Fin 16 := ⟨t.val, by have := t.isLt; have := N_eq; omega⟩

/-- The channel of a place in a grid point's block. -/
def cn (t : Fin cfg0.N) (q : Fin 128) : Fin 2048 := ⟨128 * t.val + q.val, by have := t.isLt; have := N_eq; omega⟩

/-- The steps' values' block. -/
theorem b0 (c : Dev nD) (t : Fin cfg0.N) (s : Fin 4) (r q : Fin 128) : @Eq EReal (iblk m c 0 t (ix3 s r q)) (m (c, Proc.devRef .tc main_arg0) (ix3 r s (cn t q))) := by
  have h : iblk m c 0 t (ix3 s r q) = V m c main_v0 (ix3 s r (cn t q)) := by
    show V m c main_v0 _ = V m c main_v0 _
    blk_ext [iblk, idx t, cn, nb]
  exact (show @Eq EReal _ _ from h).trans (V0 m c s r (cn t q))

/-- The block of the values before the steps. -/
theorem b1 (c : Dev nD) (t : Fin cfg0.N) (s : Fin 3) (r q : Fin 128) : @Eq EReal (iblk m c 1 t (ix3 s r q)) (m (c, Proc.devRef .tc main_arg1) (ix3 r s (cn t q))) := by
  have h : iblk m c 1 t (ix3 s r q) = V m c main_v1 (ix3 s r (cn t q)) := by
    show V m c main_v1 _ = V m c main_v1 _
    blk_ext [iblk, idx t, cn, nb]
  exact (show @Eq EReal _ _ from h).trans (V1 m c s r (cn t q))

/-- The state's block. -/
theorem b3 (c : Dev nD) (t : Fin cfg0.N) (r q : Fin 128) : @Eq EReal (iblk m c 3 t (ix2 r q)) (m (c, Proc.devRef .tc main_arg3) (ix2 r (cn t q))) := by
  have h : iblk m c 3 t (ix2 r q) = V m c main_arg3 (ix2 r (cn t q)) := by
    show V m c main_arg3 _ = V m c main_arg3 _
    blk_ext [iblk, idx t, cn, nb]
  exact (show @Eq EReal _ _ from h).trans (congrFun (V_main_arg3 m c) _)

/-- The convolution's weights' block. -/
theorem b4 (c : Dev nD) (t : Fin cfg0.N) (s : Fin 4) (q : Fin 128) : @Eq EReal (iblk m c 4 t (ix2 s q)) (m (c, Proc.devRef .tc main_arg4) (ix2 s (cn t q))) := by
  have h : iblk m c 4 t (ix2 s q) = V m c main_arg4 (ix2 s (cn t q)) := by
    show V m c main_arg4 _ = V m c main_arg4 _
    blk_ext [iblk, idx t, cn, nb]
  exact (show @Eq EReal _ _ from h).trans (congrFun (V_main_arg4 m c) _)

/-- The convolution's bias' block. -/
theorem b5 (c : Dev nD) (t : Fin cfg0.N) (q : Fin 128) : @Eq EReal (iblk m c 5 t (ix2 0 q)) (m (c, Proc.devRef .tc main_arg5) (ix1 (cn t q))) := by
  have h : iblk m c 5 t (ix2 0 q) = V m c main_v5 (ix2 0 (cn t q)) := by
    show V m c main_v5 _ = V m c main_v5 _
    blk_ext [iblk, idx t, cn, nb]
  exact (show @Eq EReal _ _ from h).trans (V5 m c (cn t q))

/-- The recurrence gate's bias' block. -/
theorem b7 (c : Dev nD) (t : Fin cfg0.N) (q : Fin 128) : @Eq EReal (iblk m c 7 t (ix2 0 q)) (m (c, Proc.devRef .tc main_arg7) (ix1 (cn t q))) := by
  have h : iblk m c 7 t (ix2 0 q) = V m c main_v6 (ix2 0 (cn t q)) := by
    show V m c main_v6 _ = V m c main_v6 _
    blk_ext [iblk, idx t, cn, nb]
  exact (show @Eq EReal _ _ from h).trans (V7 m c (cn t q))

/-- The input gate's bias' block. -/
theorem b9 (c : Dev nD) (t : Fin cfg0.N) (q : Fin 128) : @Eq EReal (iblk m c 9 t (ix2 0 q)) (m (c, Proc.devRef .tc main_arg9) (ix1 (cn t q))) := by
  have h : iblk m c 9 t (ix2 0 q) = V m c main_v7 (ix2 0 (cn t q)) := by
    show V m c main_v7 _ = V m c main_v7 _
    blk_ext [iblk, idx t, cn, nb]
  exact (show @Eq EReal _ _ from h).trans (V9 m c (cn t q))

/-- The decay's parameter's block. -/
theorem b10 (c : Dev nD) (t : Fin cfg0.N) (q : Fin 128) : @Eq EReal (iblk m c 10 t (ix2 0 q)) (m (c, Proc.devRef .tc main_arg10) (ix1 (cn t q))) := by
  have h : iblk m c 10 t (ix2 0 q) = V m c main_v8 (ix2 0 (cn t q)) := by
    show V m c main_v8 _ = V m c main_v8 _
    blk_ext [iblk, idx t, cn, nb]
  exact (show @Eq EReal _ _ from h).trans (V10 m c (cn t q))

/-- The recurrence gate's weights' block. -/
theorem b6 (c : Dev nD) (t : Fin cfg0.N) (k q : Fin 128) : @Eq EReal (iblk m c 6 t (ix3 0 k q)) (m (c, Proc.devRef .tc main_arg6) (ix3 (nb t) k q)) := by
  have h : iblk m c 6 t (ix3 0 k q) = V m c main_v3 (ix3 (nb t) k q) := by
    show V m c main_v3 _ = V m c main_v3 _
    blk_ext [iblk, idx t, cn, nb]
  exact (show @Eq EReal _ _ from h).trans (V6 m c (nb t) k q)

/-- The input gate's weights' block. -/
theorem b8 (c : Dev nD) (t : Fin cfg0.N) (k q : Fin 128) : @Eq EReal (iblk m c 8 t (ix3 0 k q)) (m (c, Proc.devRef .tc main_arg8) (ix3 (nb t) k q)) := by
  have h : iblk m c 8 t (ix3 0 k q) = V m c main_v4 (ix3 (nb t) k q) := by
    show V m c main_v4 _ = V m c main_v4 _
    blk_ext [iblk, idx t, cn, nb]
  exact (show @Eq EReal _ _ from h).trans (V8 m c (nb t) k q)

/-- What a grid point leaves in the state's block. -/
theorem ob (c : Dev nD) (t : Fin cfg0.N) (y : S128x128.Idx) : (dats m 0 c).after 12 t y
    = k0_pay2 (F := Ideal) (k0_pay40 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay41 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (k0_pay43 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) y := by
  rw [after0_12]
  frame_out

/-- What the state's array holds. -/
def outA (c : Dev nD) (i : S128x2048.Idx) : EReal := spec (m (c, Proc.devRef .tc main_arg0)) (m (c, Proc.devRef .tc main_arg1)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8))
    (m (c, Proc.devRef .tc main_arg9)) (m (c, Proc.devRef .tc main_arg10)) (i 0) (i 1)

/-- The state's array after the run. -/
theorem out_arr12 (c : Dev nD) : (dats m 0 c).arrAt 12 cfg0.N = outA m c := by
  refine (dats m 0 c).arrAt_eq_of_covers 12 _ (by decide +kernel) fun t hf y => ?_
  blk_simp
  refine (ob m c t y).trans ?_
  obtain ⟨r, q, hy⟩ : ∃ (r q : Fin 128), y = ix2 r q := ⟨y 0, y 1, by funext a; fin_cases a <;> rfl⟩
  have e0 : (((win0_12.blk t).view.emb y) 0 : Fin 128) = r := by
    refine Fin.ext ?_
    show win0_12.index t (0 : Fin 2) * 128 + 1 * (y 0).val = r.val
    rw [show win0_12.index t (0 : Fin 2) = 0 by simp only [idx t], hy]
    show 0 * 128 + 1 * r.val = _
    omega
  have e1 : (((win0_12.blk t).view.emb y) 1 : Fin 2048) = cn t q := by
    refine Fin.ext ?_
    show win0_12.index t (1 : Fin 2) * 128 + 1 * (y 1).val = 128 * t.val + q.val
    rw [show win0_12.index t (1 : Fin 2) = t.val by simp only [idx t], hy]
    show t.val * 128 + 1 * q.val = _
    omega
  have hA : ∀ i, outA m c i = spec (m (c, Proc.devRef .tc main_arg0)) (m (c, Proc.devRef .tc main_arg1)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8))
    (m (c, Proc.devRef .tc main_arg9)) (m (c, Proc.devRef .tc main_arg10)) (i 0) (i 1) := fun _ => rfl
  have hc : ∀ k, ch (cn t q) k = cn t k := fun k => Fin.ext (by unfold ch cn; dsimp only; omega)
  have hb : bk (cn t q) = nb t := Fin.ext (by unfold bk cn nb; dsimp only; omega)
  have hp : pl (cn t q) = q := Fin.ext (by unfold pl cn; dsimp only; omega)
  rw [hy] at e0 e1 ⊢
  refine (out_at _ _ _ _ _ _ _ _ _ _ _ r q).trans (Eq.trans ?_ (hA _).symm)
  rw [e0, e1]
  unfold spec
  simp only [hc, hb, hp, b0, b1, b3, b4, b5, b6, b7, b8, b9, b10]

set_option maxRecDepth 200000 in
set_option maxHeartbeats 4000000 in
/-- The kernel's result is the reference's. -/
theorem value : algebraic_Kernel9Ideal_Reference9Ideal := by
  intro m ρ m' ρ' _ hagree
  refine ⟨_, (θ_run Cert.Kernel9Ideal.defs _ _).mono (fun r h c => ⟨(h c).2.1, (h c).2.2⟩)
    (Cert.Kernel9Ideal.Value.run_blocks (F := Ideal) m ρ), ?_⟩
  refine (θ_run Cert.Reference9Ideal.defs _ _).mono (fun _ h c => ⟨?_, (h c).2⟩) (Cert.Reference9Ideal.Value.run (F := Ideal) m' ρ')
  rw [(h c).1]
  obtain ⟨a0, a1, a2, a3, a4, a5, a6, a7, a8, a9, a10⟩ := hagree c
  rw [out_arr12]
  funext i
  obtain ⟨b, j, rfl⟩ : ∃ (b : Fin 128) (j : Fin 2048), i = ix2 b j := ⟨i 0, i 1, by funext a; fin_cases a <;> rfl⟩
  have hA : outA m c (ix2 b j) = spec (m (c, Proc.devRef .tc main_arg0)) (m (c, Proc.devRef .tc main_arg1)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8))
    (m (c, Proc.devRef .tc main_arg9)) (m (c, Proc.devRef .tc main_arg10)) b j := rfl
  refine Eq.trans (ref_at m' c b j) (Eq.trans ?_ hA.symm)
  have h0 : m' (c, Proc.tc.devRef Cert.Reference9Ideal.main_arg0) = m (c, Proc.tc.devRef main_arg0) := a0
  have h1 : m' (c, Proc.tc.devRef Cert.Reference9Ideal.main_arg1) = m (c, Proc.tc.devRef main_arg1) := a1
  have h3 : m' (c, Proc.tc.devRef Cert.Reference9Ideal.main_arg3) = m (c, Proc.tc.devRef main_arg3) := a3
  have h4 : m' (c, Proc.tc.devRef Cert.Reference9Ideal.main_arg4) = m (c, Proc.tc.devRef main_arg4) := a4
  have h5 : m' (c, Proc.tc.devRef Cert.Reference9Ideal.main_arg5) = m (c, Proc.tc.devRef main_arg5) := a5
  have h6 : m' (c, Proc.tc.devRef Cert.Reference9Ideal.main_arg6) = m (c, Proc.tc.devRef main_arg6) := a6
  have h7 : m' (c, Proc.tc.devRef Cert.Reference9Ideal.main_arg7) = m (c, Proc.tc.devRef main_arg7) := a7
  have h8 : m' (c, Proc.tc.devRef Cert.Reference9Ideal.main_arg8) = m (c, Proc.tc.devRef main_arg8) := a8
  have h9 : m' (c, Proc.tc.devRef Cert.Reference9Ideal.main_arg9) = m (c, Proc.tc.devRef main_arg9) := a9
  have h10 : m' (c, Proc.tc.devRef Cert.Reference9Ideal.main_arg10) = m (c, Proc.tc.devRef main_arg10) := a10
  rw [h0, h1, h3, h4, h5, h6, h7, h8, h9, h10]

end Cert.Proof.RnnSample

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Attention
public import proofs.«01_k».proof.Proof.Gen.Kernel2.Frame
public import proofs.«01_k».proof.Proof.Gen.Kernel2Ideal.Value
public import proofs.«01_k».proof.Proof.Gen.Reference2Ideal.Run
public import proofs.«01_k».proof.Proof.Swiglu
public import proofs.«01_k».proof.Proof.Gen.Kernel3.Frame
public import proofs.«01_k».proof.Proof.Gen.Kernel3Ideal.Value
public import proofs.«01_k».proof.Proof.Gen.Reference3Ideal.Run
public import proofs.«01_k».proof.Proof.DownProj
public import proofs.«01_k».proof.Proof.Gen.Kernel4.Frame
public import proofs.«01_k».proof.Proof.Gen.Kernel4Ideal.Value
public import proofs.«01_k».proof.Proof.Gen.Reference4Ideal.Run
public import proofs.«01_k».proof.Proof.InProj
public import proofs.«01_k».proof.Proof.Gen.Kernel5.Frame
public import proofs.«01_k».proof.Proof.Gen.Kernel5Ideal.Value
public import proofs.«01_k».proof.Proof.Gen.Reference5Ideal.Run
public import proofs.«01_k».proof.Proof.OutProj
public import proofs.«01_k».proof.Proof.Gen.Kernel6.Frame
public import proofs.«01_k».proof.Proof.Gen.Kernel6Ideal.Value
public import proofs.«01_k».proof.Proof.Gen.Reference6Ideal.Run
public import proofs.«01_k».proof.Proof.MlaPrep
public import proofs.«01_k».proof.Proof.Gen.Kernel7.Frame
public import proofs.«01_k».proof.Proof.Gen.Kernel7Ideal.Value
public import proofs.«01_k».proof.Proof.Gen.Reference7Ideal.Run
public import proofs.«01_k».proof.Proof.NormPrompt
public import proofs.«01_k».proof.Proof.Gen.Kernel8.Frame
public import proofs.«01_k».proof.Proof.Gen.Kernel8Ideal.Value
public import proofs.«01_k».proof.Proof.Gen.Reference8Ideal.Run
public import proofs.«01_k».proof.Proof.NormSample
public import proofs.«01_k».proof.Proof.Gen.Kernel9.Frame
public import proofs.«01_k».proof.Proof.Gen.Kernel9Ideal.Value
public import proofs.«01_k».proof.Proof.Gen.Reference9Ideal.Run
public import proofs.«01_k».proof.Proof.RnnSample
public import proofs.«01_k».proof.Proof.Gen.Pre_attn_args_finite
public import Idealize.ShloMosaic.Adequacy
public import Idealize.ShloMosaic.Init
public import Idealize.ShloMosaic.Lib.Quiescent

@[expose] public section

noncomputable section

namespace Cert.Proof

open Idealize.ShloMosaic Idealize.SL.Sem

/-- The reference of program pair 1 runs, leaves its arguments unchanged and ends quiescent. -/
theorem run_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one named constant of the attention's kernel has the value that its name is given. -/
theorem preserves_attention : preserves_Kernel_KernelIdeal :=
  IdealRules.named_const.statement Cert.KernelIdeal.κ "scale_log2e" .f32 0x3DD53B95#32 (((Real.sqrt 192)⁻¹ * (Real.log 2)⁻¹ : ℝ) : EReal) rfl

/-- The reference of program pair 2 runs, leaves its arguments unchanged and ends quiescent. -/
theorem run_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of program pair 3 runs, leaves its arguments unchanged and ends quiescent. -/
theorem run_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of program pair 4 runs, leaves its arguments unchanged and ends quiescent. -/
theorem run_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of program pair 5 runs, leaves its arguments unchanged and ends quiescent. -/
theorem run_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of program pair 6 runs, leaves its arguments unchanged and ends quiescent. -/
theorem run_Reference6Ideal : quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The reference of program pair 7 runs, leaves its arguments unchanged and ends quiescent. -/
theorem run_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of program pair 8 runs, leaves its arguments unchanged and ends quiescent. -/
theorem run_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of program pair 9 runs, leaves its arguments unchanged and ends quiescent. -/
theorem run_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Every claim of the certificate. -/
theorem claim : Cert.Claim := ⟨
  Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Pre_attn_args_finite.Gen.facts, fun m ρ _ => Cert.Kernel.Gen.frame m ρ,
    fun m ρ _ => Cert.KernelIdeal.Gen.frame m ρ, fun m ρ _ => Cert.KernelIdeal.Gen.frame m ρ, run_ReferenceIdeal,
    fun m ρ _ => run_ReferenceIdeal m ρ trivial, fun m ρ _ => Cert.Kernel2.Gen.frame m ρ,
    fun m ρ _ => Cert.Kernel2Ideal.Gen.frame m ρ, run_Reference2Ideal, fun m ρ _ => Cert.Kernel3.Gen.frame m ρ,
    fun m ρ _ => Cert.Kernel3Ideal.Gen.frame m ρ, run_Reference3Ideal, fun m ρ _ => Cert.Kernel4.Gen.frame m ρ,
    fun m ρ _ => Cert.Kernel4Ideal.Gen.frame m ρ, run_Reference4Ideal, fun m ρ _ => Cert.Kernel5.Gen.frame m ρ,
    fun m ρ _ => Cert.Kernel5Ideal.Gen.frame m ρ, run_Reference5Ideal, fun m ρ _ => Cert.Kernel6.Gen.frame m ρ,
    fun m ρ _ => Cert.Kernel6Ideal.Gen.frame m ρ, run_Reference6Ideal, fun m ρ _ => Cert.Kernel7.Gen.frame m ρ,
    fun m ρ _ => Cert.Kernel7Ideal.Gen.frame m ρ, run_Reference7Ideal, fun m ρ _ => Cert.Kernel8.Gen.frame m ρ,
    fun m ρ _ => Cert.Kernel8Ideal.Gen.frame m ρ, run_Reference8Ideal, fun m ρ _ => Cert.Kernel9.Gen.frame m ρ,
    fun m ρ _ => Cert.Kernel9Ideal.Gen.frame m ρ, run_Reference9Ideal, preserves_attention, Attention.value, trivial,
    Swiglu.value, trivial, DownProj.value, trivial, InProj.value, trivial, OutProj.value, trivial, MlaPrep.value,
    trivial, NormPrompt.value, trivial, NormSample.value, trivial, RnnSample.value⟩

end Cert.Proof

end
